-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x1024x512 : Shape := ⟨3, ![4, 1024, 512]⟩
abbrev S512x32 : Shape := ⟨2, ![512, 32]⟩
abbrev S512x512 : Shape := ⟨2, ![512, 512]⟩
abbrev S512 : Shape := ⟨1, ![512]⟩
abbrev S_ : Shape := ⟨0, ![]⟩
abbrev S1 : Shape := ⟨1, ![1]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S512x32 : S_.BroadcastsInDim S512x32 (![] : Fin 0 → Fin S512x32.rank)
  reducesTo_S512x32_S_d0_1 : S512x32.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S512x32_S512_d1 : S512x32.ReducesTo [1] S512
  slices_S512_S1_0 : S512.Slices ![0] S1
  shapeCasts_S1_S_ : S1.ShapeCasts S_

variable [Facts]

def fn_part2 {F : FTy → Type} [FloatOps F] (main_v28 : IVec S_ 1) (main_v34 : IVec S512 1) : IVec S_ 1 :=
  let main_c_11 : IVec S_ 1 := constantI S_ 1 1#1
  let main_v35 : IVec S_ 1 := (fun x v => Host.reduce IntOp.andi x v reducesTo_S512_S_d0 h_S_) main_v34 main_c_11
  let main_v36 : IVec S_ 1 := andi main_v28 main_v35
  main_v36

def fn_part1 {F : FTy → Type} [FloatOps F] (main_arg3 : FVec F S512x32 .f32) (main_arg4 : FVec F S512x512 .f32) (main_arg5 : FVec F S512 .f32) (main_v3 : IVec S_ 1) (main_v7 : IVec S_ 1) (main_v11 : IVec S_ 1) (main_v15 : IVec S_ 1) : IVec S_ 1 :=
  let main_v16 : FVec F S512x512 .f32 := Host.absf main_arg4
  let main_cst_6 : FVec F S_ .f32 := constant S_ .f32 0x7F800000#32
  let main_v17 : FVec F S512x512 .f32 := broadcastInDim S512x512 ![] bcast_S_S512x512 main_cst_6
  let main_v18 : IVec S512x512 1 := cmpf .olt main_v16 main_v17
  let main_c_7 : IVec S_ 1 := constantI S_ 1 1#1
  let main_v19 : IVec S_ 1 := (fun x v => Host.reduce IntOp.andi x v reducesTo_S512x512_S_d0_1 h_S_) main_v18 main_c_7
  let main_v20 : FVec F S512 .f32 := Host.absf main_arg5
  let main_cst_8 : FVec F S_ .f32 := constant S_ .f32 0x7F800000#32
  let main_v21 : FVec F S512 .f32 := broadcastInDim S512 ![] bcast_S_S512 main_cst_8
  let main_v22 : IVec S512 1 := cmpf .olt main_v20 main_v21
  let main_c_9 : IVec S_ 1 := constantI S_ 1 1#1
  let main_v23 : IVec S_ 1 := (fun x v => Host.reduce IntOp.andi x v reducesTo_S512_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  let main_v29 : FVec F S512x32 .f32 := mulf main_arg3 main_arg3
  let main_cst_10 : FVec F S_ .f32 := constant S_ .f32 0x00000000#32
  let main_v30 : FVec F S512 .f32 := (fun x v => Host.reduceAdd x v reducesTo_S512x32_S512_d1 h_S_) main_v29 main_cst_10
  let main_v31 : FVec F S1 .f32 := (extractStridedSlice S1 ![0] · slices_S512_S1_0) main_v30
  let main_v32 : FVec F S_ .f32 := shapeCast S_ main_v31 shapeCasts_S1_S_
  let main_v33 : FVec F S512 .f32 := broadcastInDim S512 ![] bcast_S_S512 main_v32
  let main_v34 : IVec S512 1 := cmpf .oeq main_v30 main_v33
  fn_part2 (F := F) main_v28 main_v34

def fn {F : FTy → Type} [FloatOps F] (main_arg0 : FVec F S4x1024x512 .f32) (main_arg1 : FVec F S4x1024x512 .f32) (main_arg2 : FVec F S512x32 .f32) (main_arg3 : FVec F S512x32 .f32) (main_arg4 : FVec F S512x512 .f32) (main_arg5 : FVec F S512 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S4x1024x512 .f32 := Host.absf main_arg1
  let main_cst_0 : FVec F S_ .f32 := constant S_ .f32 0x7F800000#32
  let main_v5 : FVec F S4x1024x512 .f32 := broadcastInDim S4x1024x512 ![] bcast_S_S4x1024x512 main_cst_0
  let main_v6 : IVec S4x1024x512 1 := cmpf .olt main_v4 main_v5
  let main_c_1 : IVec S_ 1 := constantI S_ 1 1#1
  let main_v7 : IVec S_ 1 := (fun x v => Host.reduce IntOp.andi x v reducesTo_S4x1024x512_S_d0_1_2 h_S_) main_v6 main_c_1
  let main_v8 : FVec F S512x32 .f32 := Host.absf main_arg2
  let main_cst_2 : FVec F S_ .f32 := constant S_ .f32 0x7F800000#32
  let main_v9 : FVec F S512x32 .f32 := broadcastInDim S512x32 ![] bcast_S_S512x32 main_cst_2
  let main_v10 : IVec S512x32 1 := cmpf .olt main_v8 main_v9
  let main_c_3 : IVec S_ 1 := constantI S_ 1 1#1
  let main_v11 : IVec S_ 1 := (fun x v => Host.reduce IntOp.andi x v reducesTo_S512x32_S_d0_1 h_S_) main_v10 main_c_3
  let main_v12 : FVec F S512x32 .f32 := Host.absf main_arg3
  let main_cst_4 : FVec F S_ .f32 := constant S_ .f32 0x7F800000#32
  let main_v13 : FVec F S512x32 .f32 := broadcastInDim S512x32 ![] bcast_S_S512x32 main_cst_4
  let main_v14 : IVec S512x32 1 := cmpf .olt main_v12 main_v13
  let main_c_5 : IVec S_ 1 := constantI S_ 1 1#1
  let main_v15 : IVec S_ 1 := (fun x v => Host.reduce IntOp.andi x v reducesTo_S512x32_S_d0_1 h_S_) main_v14 main_c_5
  fn_part1 (F := F) main_arg3 main_arg4 main_arg5 main_v3 main_v7 main_v11 main_v15
-- ==== Kernel.lean ====
abbrev S4x1024x512 : Shape := ⟨3, ![4, 1024, 512]⟩
abbrev S512x32 : Shape := ⟨2, ![512, 32]⟩
abbrev S512x512 : Shape := ⟨2, ![512, 512]⟩
abbrev S512 : Shape := ⟨1, ![512]⟩
abbrev S4096x512 : Shape := ⟨2, ![4096, 512]⟩
abbrev S32x512 : Shape := ⟨2, ![32, 512]⟩
abbrev S1x512 : Shape := ⟨2, ![1, 512]⟩
abbrev S1x1 : Shape := ⟨2, ![1, 1]⟩
abbrev S512x1 : Shape := ⟨2, ![512, 1]⟩
abbrev S1 : Shape := ⟨1, ![1]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S512x32, .f32⟩
  | .hbm, ⟨3, _⟩ => ⟨S512x32, .f32⟩
  | .hbm, ⟨4, _⟩ => ⟨S512x512, .f32⟩
  | .hbm, ⟨5, _⟩ => ⟨S512, .f32⟩
  | .hbm, ⟨6, _⟩ => ⟨S4096x512, .f32⟩
  | .hbm, ⟨7, _⟩ => ⟨S4096x512, .f32⟩
  | .hbm, ⟨8, _⟩ => ⟨S32x512, .f32⟩
  | .hbm, ⟨9, _⟩ => ⟨S1x512, .f32⟩
  | .hbm, ⟨10, _⟩ => ⟨S1x1, .f32⟩
  | .hbm, ⟨11, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x32, .f32⟩
  | .local _ .vmem, ⟨5, _⟩ => ⟨S32x512, .f32⟩
  | .local _ .vmem, ⟨6, _⟩ => ⟨S512x512, .f32⟩
  | .local _ .vmem, ⟨7, _⟩ => ⟨S1x512, .f32⟩
  | .local _ .vmem, ⟨8, _⟩ => ⟨S1x1, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x1024x512 : Shape := ⟨3, ![4, 1024, 512]⟩
abbrev S512x32 : Shape := ⟨2, ![512, 32]⟩
abbrev S512x512 : Shape := ⟨2, ![512, 512]⟩
abbrev S512 : Shape := ⟨1, ![512]⟩
abbrev S1x1x512 : Shape := ⟨3, ![1, 1, 512]⟩
abbrev S4x1024x32 : Shape := ⟨3, ![4, 1024, 32]⟩
abbrev S_ : Shape := ⟨0, ![]⟩
abbrev S4x1024 : Shape := ⟨2, ![4, 1024]⟩
abbrev S4x1024x1 : Shape := ⟨3, ![4, 1024, 1]⟩
abbrev S4x1024x1x32 : Shape := ⟨4, ![4, 1024, 1, 32]⟩
abbrev S1x1x512x32 : Shape := ⟨4, ![1, 1, 512, 32]⟩
abbrev S4x1024x512x32 : Shape := ⟨4, ![4, 1024, 512, 32]⟩
abbrev S4096 : Shape := ⟨1, ![4096]⟩
abbrev S4096x512 : Shape := ⟨2, ![4096, 512]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S512x32, .f32⟩
  | .hbm, ⟨3, _⟩ => ⟨S512x32, .f32⟩
  | .hbm, ⟨4, _⟩ => ⟨S512x512, .f32⟩
  | .hbm, ⟨5, _⟩ => ⟨S512, .f32⟩
  | .hbm, ⟨6, _⟩ => ⟨S4x1024x512, .f32⟩
  | .hbm, ⟨7, _⟩ => ⟨S1x1x512, .f32⟩
  | .hbm, ⟨8, _⟩ => ⟨S4x1024x512, .f32⟩
  | .hbm, ⟨9, _⟩ => ⟨S4x1024x512, .f32⟩
  | .hbm, ⟨10, _⟩ => ⟨S4x1024x32, .f32⟩
  | .hbm, ⟨11, _⟩ => ⟨S4x1024x32, .f32⟩
  | .hbm, ⟨12, _⟩ => ⟨S_, .f32⟩
  | .hbm, ⟨13, _⟩ => ⟨S4x1024, .f32⟩
  | .hbm, ⟨14, _⟩ => ⟨S4x1024x1, .f32⟩
  | .hbm, ⟨15, _⟩ => ⟨S4x1024x1, .f32⟩
  | .hbm, ⟨16, _⟩ => ⟨S_, .f32⟩
  | .hbm, ⟨17, _⟩ => ⟨S4x1024x1, .f32⟩
  | .hbm, ⟨18, _⟩ => ⟨S4x1024x1, .f32⟩
  | .hbm, ⟨19, _⟩ => ⟨S4x1024x32, .f32⟩
  | .hbm, ⟨20, _⟩ => ⟨S4x1024x32, .f32⟩
  | .hbm, ⟨21, _⟩ => ⟨S4x1024x1x32, .f32⟩
  | .hbm, ⟨22, _⟩ => ⟨S1x1x512x32, .f32⟩
  | .hbm, ⟨23, _⟩ => ⟨S4x1024x512x32, .f32⟩
  | .hbm, ⟨24, _⟩ => ⟨S4x1024x512x32, .f32⟩
  | .hbm, ⟨25, _⟩ => ⟨S4x1024x512x32, .f32⟩
  | .hbm, ⟨26, _⟩ => ⟨S4x1024x512x32, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .i32⟩
  | .hbm, ⟨31, _⟩ => ⟨S_, .f32⟩
  | .hbm, ⟨32, _⟩ => ⟨S_, .i32⟩
  | .hbm, ⟨33, _⟩ => ⟨S4x1024, .f32⟩
  | .hbm, ⟨34, _⟩ => ⟨S4x1024, .i32⟩
  | .hbm, ⟨35, _⟩ => ⟨S4096, .i32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1, .f32⟩
  | .hbm, ⟨50, _⟩ => ⟨S4096x512, .f32⟩
  | .hbm, ⟨51, _⟩ => ⟨S4096x512, .f32⟩
  | .hbm, ⟨52, _⟩ => ⟨S4096x1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S_, .i32⟩
  | .hbm, ⟨57, _⟩ => ⟨S4096x1, .i32⟩
  | .hbm, ⟨58, _⟩ => ⟨S4096x1, .i32⟩
  | .hbm, ⟨59, _⟩ => ⟨S4096x1, .i32⟩
  | .hbm, ⟨60, _⟩ => ⟨S4096x1x1, .i32⟩
  | .hbm, ⟨61, _⟩ => ⟨S1, .i32⟩
  | .hbm, ⟨62, _⟩ => ⟨S_, .i32⟩
  | .hbm, ⟨63, _⟩ => ⟨S4096x1x1, .i32⟩
  | .hbm, ⟨64, _⟩ => ⟨S4096x1x1, .i1⟩
  | .hbm, ⟨65, _⟩ => ⟨S1x1x1, .i32⟩
  | .hbm, ⟨66, _⟩ => ⟨S4096x1x1, .i32⟩
  | .hbm, ⟨67, _⟩ => ⟨S4096x1x1, .i1⟩
  | .hbm, ⟨68, _⟩ => ⟨S4096x1x1, .i1⟩
  | .hbm, ⟨69, _⟩ => ⟨S_, .i1⟩
  | .hbm, ⟨70, _⟩ => ⟨S4096x1, .i1⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096, .f32⟩
  | .hbm, ⟨76, _⟩ => ⟨S4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_v15 : Ref sig .tc := ⟨.hbm, 29, rfl⟩
abbrev main_call2_v0 : Ref sig .tc := ⟨.hbm, 30, rfl⟩
abbrev main_call2_cst : Ref sig .tc := ⟨.hbm, 31, rfl⟩
abbrev main_call2_c : Ref sig .tc := ⟨.hbm, 32, rfl⟩
abbrev main_call2_v1_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call3_cst : Ref sig .tc := ⟨.hbm, 37, rfl⟩
abbrev main_call3_v0 : Ref sig .tc := ⟨.hbm, 38, rfl⟩
abbrev main_call3_cst_0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_cst_1 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_v19 : Ref sig .tc := ⟨.hbm, 51, rfl⟩
abbrev main_v20 : Ref sig .tc := ⟨.hbm, 52, rfl⟩
abbrev main_call4_c : Ref sig .tc := ⟨.hbm, 53, rfl⟩
abbrev main_call4_v0 : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_v5 : Ref sig .tc := ⟨.hbm, 60, rfl⟩
abbrev main_call4_c_1 : Ref sig .tc := ⟨.hbm, 61, rfl⟩
abbrev main_call4_c_2 : Ref sig .tc := ⟨.hbm, 62, rfl⟩
abbrev main_call4_v6 : Ref sig .tc := ⟨.hbm, 63, rfl⟩
abbrev main_call4_v7 : Ref sig .tc := ⟨.hbm, 64, rfl⟩
abbrev main_call4_v8 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_c_3 : Ref sig .tc := ⟨.hbm, 69, rfl⟩
abbrev main_call4_v12 : Ref sig .tc := ⟨.hbm, 70, rfl⟩
abbrev main_call4_v13 : Ref sig .tc := ⟨.hbm, 71, rfl⟩
abbrev main_call4_cst : Ref sig .tc := ⟨.hbm, 72, rfl⟩
abbrev main_call4_v14 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_0 : Ref sig .tc := ⟨.hbm, 77, rfl⟩
abbrev main_v24 : Ref sig .tc := ⟨.hbm, 78, rfl⟩
abbrev main_cst_1 : Ref sig .tc := ⟨.hbm, 79, rfl⟩
abbrev main_v25 : Ref sig .tc := ⟨.hbm, 80, rfl⟩

abbrev nD : Nat := 1
abbrev τ : Topo := Topo.v7x

variable {F : FTy → Type} [FloatOps F]
-- ==== Proof.RefStages.lean ====
/-
  What the reference leaves in its result: its operations, composed in stages. Each stage is one named function of
  arrays, and `refOut` composes them.
-/
module

public import proofs.«01_k».proof.Defs
public import proofs.«01_k».proof.Proof.Gen.ReferenceIdeal
public import Idealize.ShloMosaic.Lib.Claim

@[expose] public section

set_option maxRecDepth 16384

noncomputable section

namespace Cert.ReferenceIdeal.Hand

open Idealize.ShloMosaic Idealize.ShloMosaic.TcCoe Idealize.SL.Sem
open Cert.ReferenceIdeal Cert.ReferenceIdeal.Facts₀

/-- The logits: the context times the encoder's matrix, plus the bias. -/
def logits (ctx : FVec Ideal S4x1024x512 .f32) (W : FVec Ideal S512x512 .f32) (b : FVec Ideal S512 .f32) :
    FVec Ideal S4x1024x512 .f32 :=
  addf (Host.dotGeneral dot_S4x1024x512_S512x512_S4x1024x512_2_0_01_1_n_n none ctx W)
    (broadcastInDim S4x1024x512 ![0, 1, 2] bcast_S1x1x512_S4x1024x512_0_1_2
      (broadcastInDim S1x1x512 ![2] bcast_S512_S1x1x512_2 b))

/-- The features, projected. -/
def latent (feats : FVec Ideal S4x1024x512 .f32) (P : FVec Ideal S512x32 .f32) : FVec Ideal S4x1024x32 .f32 :=
  Host.dotGeneral dot_S4x1024x512_S512x32_S4x1024x32_2_0_01_1_n_n none feats P

/-- The projected features over the greater of their norm and a small constant. -/
def normed (g : FVec Ideal S4x1024x32 .f32) : FVec Ideal S4x1024x32 .f32 :=
  Host.divf g (broadcastInDim S4x1024x32 ![0, 1, 2] bcast_S4x1024x1_S4x1024x32_0_1_2
    (maximumf
      (Host.sqrt (broadcastInDim S4x1024x1 ![0, 1] bcast_S4x1024_S4x1024x1_0_1
        (Host.reduceAdd (mulf g g) (constant S_ .f32 0x00000000#32) reducesTo_S4x1024x32_S4x1024_d2 h_S_)))
      (broadcastInDim S4x1024x1 ![] bcast_S_S4x1024x1 (constant S_ .f32 0x2B8CBCCC#32))))

/-- The normalized features less every code. -/
def diffs (f : FVec Ideal S4x1024x32 .f32) (C : FVec Ideal S512x32 .f32) : FVec Ideal S4x1024x512x32 .f32 :=
  subf
    (broadcastInDim S4x1024x512x32 ![0, 1, 2, 3] bcast_S4x1024x1x32_S4x1024x512x32_0_1_2_3
      (broadcastInDim S4x1024x1x32 ![0, 1, 3] bcast_S4x1024x32_S4x1024x1x32_0_1_3 f))
    (broadcastInDim S4x1024x512x32 ![0, 1, 2, 3] bcast_S1x1x512x32_S4x1024x512x32_0_1_2_3
      (broadcastInDim S1x1x512x32 ![2, 3] bcast_S512x32_S1x1x512x32_2_3 C))

/-- The norm of a difference, over its last axis. -/
def dists (x : FVec Ideal S4x1024x512x32 .f32) : FVec Ideal S4x1024x512 .f32 :=
  Host.sqrt (Host.reduceAdd (mulf x x) (constant S_ .f32 0x00000000#32) reducesTo_S4x1024x512x32_S4x1024x512_d3 h_S_)

/-- The index of the least distance. -/
def targets (d : FVec Ideal S4x1024x512 .f32) : IVec S4x1024 32 := fun j =>
  (Host.argReduce reducer_argmin_f32_i32 d (iotaInDim S4x1024x512 32 2) (constant S_ .f32 0x7F800000#32)
    (constantI S_ 32 0#32) reducesTo_S4x1024x512_S4x1024_d2 h_S_ j).2

/-- The logits less their row's maximum. -/
def shifted (l : FVec Ideal S4096x512 .f32) : FVec Ideal S4096x512 .f32 :=
  subf l (broadcastInDim S4096x512 ![0, 1] bcast_S4096x1_S4096x512_0_1
    (broadcastInDim S4096x1 ![0] bcast_S4096_S4096x1_0
      (maximumf (broadcastInDim S4096 ![] bcast_S_S4096 (constant S_ .f32 0xFF800000#32))
        (Host.reduce FloatOps.maximumf l (constant S_ .f32 0xFF800000#32) reducesTo_S4096x512_S4096_d1 h_S_))))

/-- The logarithms of the probabilities. -/
def logp (l : FVec Ideal S4096x512 .f32) : FVec Ideal S4096x512 .f32 :=
  subf (shifted l) (broadcastInDim S4096x512 ![0, 1] bcast_S4096x1_S4096x512_0_1
    (Host.log (broadcastInDim S4096x1 ![0] bcast_S4096_S4096x1_0
      (Host.reduceAdd (Host.exp (shifted l)) (constant S_ .f32 0x00000000#32) reducesTo_S4096x512_S4096_d1 h_S_))))

/-- An index below zero counts from the end. -/
def wrapped (i : IVec S4096x1 32) : IVec S4096x1x1 32 :=
  shapeCast S4096x1x1
    (select (cmpi .slt i (broadcastInDim S4096x1 ![] bcast_S_S4096x1 (constantI S_ 32 0#32)))
      (addi i (broadcastInDim S4096x1 ![] bcast_S_S4096x1 (constantI S_ 32 512#32))) i)
    shapeCasts_S4096x1_S4096x1x1

/-- Whether the index is inside the row. -/
def inside (w : IVec S4096x1x1 32) : IVec S4096x1 1 :=
  Host.reduce IntOp.andi
    (andi (cmpi .sge w (broadcastInDim S4096x1x1 ![] bcast_S_S4096x1x1 (constantI S_ 32 0#32)))
      (cmpi .sle w (broadcastInDim S4096x1x1 ![0, 1, 2] bcast_S1x1x1_S4096x1x1_0_1_2
        (broadcastInDim S1x1x1 ![2] bcast_S1_S1x1x1_2 (constantI S1 32 511#32)))))
    (constantI S_ 1 1#1) reducesTo_S4096x1x1_S4096x1_d2 h_S_

/-- The element of every row at its index. -/
def taken (p : FVec Ideal S4096x512 .f32) (i : IVec S4096x1 32) : FVec Ideal S4096x1 .f32 :=
  select (inside (wrapped i)) (Host.gather gather_S4096x512_S4096x1x1_S4096x1_n_1_0_0_1_2_11 p (wrapped i))
    (broadcastInDim S4096x1 ![] bcast_S_S4096x1 (constant S_ .f32 0x7FC00000#32))

/-- The mean of the negated elements. -/
def loss (t : FVec Ideal S4096x1 .f32) : FVec Ideal S_ .f32 :=
  Host.divf
    (Host.reduceAdd (Host.negf (shapeCast S4096 t shapeCasts_S4096x1_S4096)) (constant S_ .f32 0x00000000#32)
      reducesTo_S4096_S_d0 h_S_)
    (constant S_ .f32 0x45800000#32)

/-- The index of every row, flattened and as a column. -/
def column (t : IVec S4x1024 32) : IVec S4096x1 32 :=
  broadcastInDim S4096x1 ![0] bcast_S4096_S4096x1_0 (shapeCast S4096 t shapeCasts_S4x1024_S4096)

/-- The reference's result from its six arguments. -/
def refOut (a0 a1 : FVec Ideal S4x1024x512 .f32) (a2 a3 : FVec Ideal S512x32 .f32) (a4 : FVec Ideal S512x512 .f32)
    (a5 : FVec Ideal S512 .f32) : FVec Ideal S_ .f32 :=
  loss (taken (logp (shapeCast S4096x512 (logits a1 a4 a5) shapeCasts_S4x1024x512_S4096x512))
    (column (targets (dists (diffs (normed (latent a0 a2)) a3)))))

end Cert.ReferenceIdeal.Hand

end
-- ==== Proof.RefRun.lean ====
/-
  The reference program's run: it ends with `refOut` of its six arguments in its result.
-/
module

public import proofs.«01_k».proof.Proof.RefStages

@[expose] public section

set_option maxRecDepth 16384

noncomputable section

namespace Cert.ReferenceIdeal.Hand

open Idealize.ShloMosaic Idealize.ShloMosaic.TcCoe Idealize.SL.Sem
open Cert.ReferenceIdeal Cert.ReferenceIdeal.Facts₀

/-! A call's argument and result are read and written through their array's own type: as the array is. -/

/-- Reading the array `v4` through its own type changes nothing. -/
theorem ofBuf_v4 (h₁ h₂ h₃) (x : (⟨S4x1024x32, .f32⟩ : BufTy).Contents (Elt Ideal)) :
    (StableHlo.TRef.of main_v4 h₁ h₂ h₃ : StableHlo.TRef sig (⟨S4x1024x32, .f32⟩ : BufTy)).ofBuf x = x := (rfl)
/-- Reading the array `v14` through its own type changes nothing. -/
theorem ofBuf_v14 (h₁ h₂ h₃) (x : (⟨S4x1024x512x32, .f32⟩ : BufTy).Contents (Elt Ideal)) :
    (StableHlo.TRef.of main_v14 h₁ h₂ h₃ : StableHlo.TRef sig (⟨S4x1024x512x32, .f32⟩ : BufTy)).ofBuf x = x := (rfl)
/-- Reading the array `v15` through its own type changes nothing. -/
theorem ofBuf_v15 (h₁ h₂ h₃) (x : (⟨S4x1024x512, .f32⟩ : BufTy).Contents (Elt Ideal)) :
    (StableHlo.TRef.of main_v15 h₁ h₂ h₃ : StableHlo.TRef sig (⟨S4x1024x512, .f32⟩ : BufTy)).ofBuf x = x := (rfl)
/-- Reading the array `v18` through its own type changes nothing. -/
theorem ofBuf_v18 (h₁ h₂ h₃) (x : (⟨S4096x512, .f32⟩ : BufTy).Contents (Elt Ideal)) :
    (StableHlo.TRef.of main_v18 h₁ h₂ h₃ : StableHlo.TRef sig (⟨S4096x512, .f32⟩ : BufTy)).ofBuf x = x := (rfl)
/-- Reading the array `v19` through its own type changes nothing. -/
theorem ofBuf_v19 (h₁ h₂ h₃) (x : (⟨S4096x512, .f32⟩ : BufTy).Contents (Elt Ideal)) :
    (StableHlo.TRef.of main_v19 h₁ h₂ h₃ : StableHlo.TRef sig (⟨S4096x512, .f32⟩ : BufTy)).ofBuf x = x := (rfl)
/-- Reading the array `v20` through its own type changes nothing. -/
theorem ofBuf_v20 (h₁ h₂ h₃) (x : (⟨S4096x1, .i32⟩ : BufTy).Contents (Elt Ideal)) :
    (StableHlo.TRef.of main_v20 h₁ h₂ h₃ : StableHlo.TRef sig (⟨S4096x1, .i32⟩ : BufTy)).ofBuf x = x := (rfl)
/-- Writing the array `v5` through its own type changes nothing. -/
theorem toBuf_v5 (h₁ h₂ h₃) (x : (⟨S4x1024x1, .f32⟩ : BufTy).Contents (Elt Ideal)) :
    (StableHlo.TRef.of main_v5 h₁ h₂ h₃ : StableHlo.TRef sig (⟨S4x1024x1, .f32⟩ : BufTy)).toBuf x = x := (rfl)
/-- Writing the array `v15` through its own type changes nothing. -/
theorem toBuf_v15 (h₁ h₂ h₃) (x : (⟨S4x1024x512, .f32⟩ : BufTy).Contents (Elt Ideal)) :
    (StableHlo.TRef.of main_v15 h₁ h₂ h₃ : StableHlo.TRef sig (⟨S4x1024x512, .f32⟩ : BufTy)).toBuf x = x := (rfl)
/-- Writing the array `v16` through its own type changes nothing. -/
theorem toBuf_v16 (h₁ h₂ h₃) (x : (⟨S4x1024, .i32⟩ : BufTy).Contents (Elt Ideal)) :
    (StableHlo.TRef.of main_v16 h₁ h₂ h₃ : StableHlo.TRef sig (⟨S4x1024, .i32⟩ : BufTy)).toBuf x = x := (rfl)
/-- Writing the array `v19` through its own type changes nothing. -/
theorem toBuf_v19 (h₁ h₂ h₃) (x : (⟨S4096x512, .f32⟩ : BufTy).Contents (Elt Ideal)) :
    (StableHlo.TRef.of main_v19 h₁ h₂ h₃ : StableHlo.TRef sig (⟨S4096x512, .f32⟩ : BufTy)).toBuf x = x := (rfl)
/-- Writing the array `v21` through its own type changes nothing. -/
theorem toBuf_v21 (h₁ h₂ h₃) (x : (⟨S4096x1, .f32⟩ : BufTy).Contents (Elt Ideal)) :
    (StableHlo.TRef.of main_v21 h₁ h₂ h₃ : StableHlo.TRef sig (⟨S4096x1, .f32⟩ : BufTy)).toBuf x = x := (rfl)
/-- Reading the array `call4_v5` through its own type changes nothing. -/
theorem ofBuf_call4_v5 (h₁ h₂ h₃) (x : (⟨S4096x1x1, .i32⟩ : BufTy).Contents (Elt Ideal)) :
    (StableHlo.TRef.of main_call4_v5 h₁ h₂ h₃ : StableHlo.TRef sig (⟨S4096x1x1, .i32⟩ : BufTy)).ofBuf x = x := (rfl)
/-- Writing the array `call4_v4` through its own type changes nothing. -/
theorem toBuf_call4_v4 (h₁ h₂ h₃) (x : (⟨S4096x1, .i32⟩ : BufTy).Contents (Elt Ideal)) :
    (StableHlo.TRef.of main_call4_v4 h₁ h₂ h₃ : StableHlo.TRef sig (⟨S4096x1, .i32⟩ : BufTy)).toBuf x = x := (rfl)

set_option maxHeartbeats 3200000 in
/-- The reference runs, leaves `refOut` of its arguments in its result, and its arguments as they were. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v25)
        = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  simp -implicitDefEqProofs only [StableHlo.TRef.ofBuf_toBuf, ofBuf_v4, ofBuf_v14, ofBuf_v15, ofBuf_v18, ofBuf_v19, ofBuf_v20, toBuf_v5, toBuf_v15, toBuf_v16, toBuf_v19, toBuf_v21, ofBuf_call4_v5, toBuf_call4_v4]
  rfl

end Cert.ReferenceIdeal.Hand

end
-- ==== Proof.RefFrame.lean ====
/-
  The reference program ends, with its arguments as they were and every semaphore at zero.
-/
module

public import proofs.«01_k».proof.Defs
public import proofs.«01_k».proof.Proof.RefRun
public import Idealize.ShloMosaic.Lib.Claim

@[expose] public section

set_option maxRecDepth 16384

noncomputable section

namespace Cert.ReferenceIdeal.Hand

open Idealize.ShloMosaic Idealize.ShloMosaic.TcCoe Idealize.SL.Sem

/-- The reference's run from any memory: its arguments unchanged, every semaphore at zero. -/
theorem frame_ref : Cert.quiescent_ReferenceIdeal := by
  intro m g _
  exact (θ_run Cert.ReferenceIdeal.defs _ _).mono
    (fun r h => ⟨fun c => (h c).2, sem_eq_zero_of_no_sems (by decide) r.2⟩) (run_ref m g)

end Cert.ReferenceIdeal.Hand

end
-- ==== Proof.Rows.lean ====
/-
  The mathematics of one row, with no program in it. A row has 512 logits `l`, 512 scores `s` and 512 distances `d`.
  The kernel takes the logarithm of the sum of exponentials of the logits and subtracts the logit at the first maximum
  of the scores; the reference takes the negated log-probability at the first minimum of the distances.
-/
module

public import Idealize.ShloMosaic.Lib.Pipeline.ValueKit
public import Idealize.ShloMosaic.Lib.Pointwise
public import Idealize.ShloMosaic.Lib.WordCmp

@[expose] public section

noncomputable section

namespace Cert.Rows

open Idealize.ShloMosaic

/-! ## Folds of maxima and sums over real values -/

/-- The fold of `max` over a row, from the bottom. -/
def rowMax (l : Fin 512 → EReal) : EReal := Finset.univ.fold max ⊥ l

/-- The place of the first maximum of a row of reals. -/
def FirstMax (s : Fin 512 → ℝ) (k : Fin 512) : Prop := (∀ i, s i ≤ s k) ∧ ∀ i, i < k → s i < s k

/-- Every row of reals has a first maximum. -/
theorem exists_firstMax (s : Fin 512 → ℝ) : ∃ k, FirstMax s k := by
  classical
  obtain ⟨m, -, hm⟩ := Finset.exists_max_image (Finset.univ : Finset (Fin 512)) s ⟨0, Finset.mem_univ _⟩
  have hne : (Finset.univ.filter fun k => s m ≤ s k).Nonempty := ⟨m, by simp⟩
  refine ⟨(Finset.univ.filter fun k => s m ≤ s k).min' hne, ?_⟩
  have hmem := Finset.min'_mem _ hne
  rw [Finset.mem_filter] at hmem
  refine ⟨fun i => (hm i (Finset.mem_univ _)).trans hmem.2, fun i hi => ?_⟩
  by_contra hc
  have hi' : i ∈ Finset.univ.filter fun k => s m ≤ s k := by
    rw [Finset.mem_filter]; exact ⟨Finset.mem_univ _, hmem.2.trans (not_lt.mp hc)⟩
  exact absurd (Finset.min'_le _ _ hi') (not_le.mpr hi)

/-- The fold of `max` over a row of reals is the value at its first maximum. -/
theorem rowMax_coe (s : Fin 512 → ℝ) {k : Fin 512} (h : ∀ i, s i ≤ s k) : rowMax (fun i => (s i : EReal)) = (s k : EReal) := by
  refine le_antisymm ?_ ?_
  · exact (Finset.fold_max_le _).mpr ⟨bot_le, fun i _ => EReal.coe_le_coe_iff.mpr (h i)⟩
  · exact (Finset.le_fold_max _).mpr (Or.inr ⟨k, Finset.mem_univ _, le_rfl⟩)

/-- A sum of real values is the real sum. -/
theorem sum_coe {ι : Type} [Fintype ι] (f : ι → ℝ) : ∑ i, (f i : EReal) = ((∑ i, f i : ℝ) : EReal) := by
  classical
  induction (Finset.univ : Finset ι) using Finset.cons_induction with
  | empty => simp
  | cons a S ha ih => rw [Finset.sum_cons, Finset.sum_cons, ih, EReal.coe_add]

/-! ## The kernel's row -/

/-- The row's maximum plus the logarithm of the sum of the exponentials below it. -/
def lse (l : Fin 512 → EReal) : EReal := rowMax l + Ideal.log (∑ x, Ideal.exp (l x - rowMax l))

/-- The least index word at which the scores meet their maximum. -/
def firstWord (s : Fin 512 → EReal) : BitVec 32 :=
  Finset.univ.fold IntOp.minsi (2147483647#32) fun x => if s x = rowMax s then BitVec.ofNat 32 x.val else 512#32

/-- The logit at that word, as the sum the kernel takes: every other term is zero. -/
def picked (s l : Fin 512 → EReal) : EReal :=
  ∑ k : Fin 512, Scalar.select (IntOp.cmpi .eq (BitVec.ofNat 32 k.val) (firstWord s)) (l k) 0

/-- What the kernel adds for one row. -/
def kernelRow (s l : Fin 512 → EReal) : EReal := lse l - picked s l

/-- The logarithm of the sum of exponentials of a real row, shifted by its maximum. -/
def realLse (l : Fin 512 → ℝ) (m : ℝ) : ℝ := m + Real.log (∑ x, Real.exp (l x - m))

/-- A sum of exponentials is positive. -/
theorem sum_exp_pos (l : Fin 512 → ℝ) (m : ℝ) : 0 < ∑ x, Real.exp (l x - m) :=
  Finset.sum_pos (fun _ _ => Real.exp_pos _) ⟨0, Finset.mem_univ _⟩

/-- The logarithm of a sum of exponentials of reals is the real one. -/
theorem log_sum_exp_coe (l : Fin 512 → ℝ) (m : ℝ) :
    Ideal.log (∑ x, Ideal.exp ((l x : EReal) - (m : EReal))) = ((Real.log (∑ x, Real.exp (l x - m)) : ℝ) : EReal) := by
  simp only [← EReal.coe_sub, Ideal.exp_coe]
  rw [sum_coe, Ideal.log_coe, if_neg (not_le.mpr (sum_exp_pos l m))]

/-- The kernel's logarithm of a sum of exponentials, on real logits, is the real one. -/
theorem lse_coe (l : Fin 512 → ℝ) {k : Fin 512} (h : ∀ i, l i ≤ l k) :
    lse (fun i => (l i : EReal)) = (realLse l (l k) : EReal) := by
  unfold lse
  rw [rowMax_coe l h, log_sum_exp_coe, ← EReal.coe_add]; rfl

/-- The word of a number below 1024, read as a signed integer, is that number. -/
theorem toInt_word {n : ℕ} (hn : n < 1024) : (BitVec.ofNat 32 n).toInt = n := by
  rw [BitVec.toInt_eq_toNat_cond, BitVec.toNat_ofNat]
  split <;> omega

/-- The signed minimum's fold lies below a bound's reverse: the least word of the row. -/
theorem toInt_fold_minsi (f : Fin 512 → BitVec 32) (b : BitVec 32) :
    (Finset.univ.fold IntOp.minsi b f).toInt = Finset.univ.fold min b.toInt fun x => (f x).toInt := by
  symm
  refine Finset.fold_hom (op' := min) (m := BitVec.toInt) ?_
  intro x y
  unfold IntOp.minsi
  by_cases h : x.slt y
  · rw [if_pos h]; rw [BitVec.slt_iff_toInt_lt] at h; exact (min_eq_left h.le).symm
  · rw [if_neg h]; rw [BitVec.slt_iff_toInt_lt] at h; exact (min_eq_right (not_lt.mp h)).symm

/-- The kernel's word is the first maximum's index. -/
theorem firstWord_coe (s : Fin 512 → ℝ) {k : Fin 512} (h : FirstMax s k) :
    firstWord (fun i => (s i : EReal)) = BitVec.ofNat 32 k.val := by
  apply BitVec.eq_of_toInt_eq
  unfold firstWord
  have hk : (BitVec.ofNat 32 k.val).toInt = (k.val : ℤ) := toInt_word (by omega)
  rw [toInt_fold_minsi, hk, rowMax_coe s h.1]
  refine le_antisymm ?_ ?_
  · refine (Finset.fold_min_le _).mpr (Or.inr ⟨k, Finset.mem_univ _, ?_⟩)
    rw [if_pos rfl, hk]
  · refine (Finset.le_fold_min _).mpr ⟨?_, fun i _ => ?_⟩
    · show (k.val : ℤ) ≤ 2147483647
      omega
    · split_ifs with hi
      · have hi' : (BitVec.ofNat 32 i.val).toInt = (i.val : ℤ) := toInt_word (by omega)
        rw [hi']
        by_contra hc
        have := h.2 i (by rw [Fin.lt_def]; omega)
        exact absurd (EReal.coe_eq_coe_iff.mp hi) this.ne
      · show (k.val : ℤ) ≤ 512
        omega

/-- The sum with one term not zero is that term. -/
theorem picked_coe (s : Fin 512 → ℝ) (l : Fin 512 → EReal) {k : Fin 512} (h : FirstMax s k) :
    picked (fun i => (s i : EReal)) l = l k := by
  unfold picked
  rw [firstWord_coe s h, Finset.sum_eq_single k]
  · simp [Scalar.select, IntOp.cmpi]
  · intro i _ hi
    have hne : BitVec.ofNat 32 i.val ≠ BitVec.ofNat 32 k.val := by
      intro e
      have := congrArg BitVec.toInt e
      rw [toInt_word (by omega), toInt_word (by omega)] at this
      exact hi (Fin.ext (by omega))
    have hb : (BitVec.ofNat 32 i.val == BitVec.ofNat 32 k.val) = false := beq_eq_false_iff_ne.mpr hne
    simp only [Scalar.select, IntOp.cmpi, hb]
    rfl
  · intro hk; exact absurd (Finset.mem_univ _) hk

/-- The kernel's row over real logits and scores, as one real number. -/
theorem kernelRow_coe (s l : Fin 512 → ℝ) {k j : Fin 512} (h : FirstMax s k) (hj : ∀ i, l i ≤ l j) :
    kernelRow (fun i => (s i : EReal)) (fun i => (l i : EReal)) = ((realLse l (l j) - l k : ℝ) : EReal) := by
  unfold kernelRow
  rw [picked_coe s _ h, lse_coe l hj, EReal.coe_sub]

/-! ## The reference's row -/

/-- The first minimum of a row of pairs by value and then by index, as the fold the reference takes. -/
def pairMin (a b : EReal × BitVec 32) : EReal × BitVec 32 :=
  (Scalar.select (IntOp.ori (Ideal.cmp .olt a.1 b.1) (Ideal.cmp .une a.1 a.1)) a.1 b.1,
   Scalar.select (IntOp.ori (IntOp.ori (Ideal.cmp .olt a.1 b.1) (Ideal.cmp .une a.1 a.1))
      (IntOp.andi (Ideal.cmp .oeq a.1 b.1) (IntOp.cmpi .slt a.2 b.2))) a.2 b.2)

/-- The order of the pairs: by value, then by index. -/
def key (p : EReal × BitVec 32) : EReal ×ₗ ℤ := toLex (p.1, p.2.toInt)

/-- Different positions have different keys. -/
theorem key_injective : Function.Injective key := by
  rintro ⟨a, x⟩ ⟨b, y⟩ e
  have e' := toLex.injective e
  rw [Prod.mk.injEq] at e'
  exact Prod.ext e'.1 (BitVec.eq_of_toInt_eq e'.2)

/-- The fold's body takes the lesser pair in that order. -/
theorem key_pairMin (a b : EReal × BitVec 32) : key (pairMin a b) = min (key a) (key b) := by
  obtain ⟨a, x⟩ := a
  obtain ⟨b, y⟩ := b
  have hun : Ideal.cmp .une a a = 0#1 := by simp [Ideal.cmp]
  rcases lt_trichotomy a b with hlt | heq | hgt
  · have h1 : Ideal.cmp .olt a b = 1#1 := by simp [Ideal.cmp, hlt]
    have h2 : Ideal.cmp .oeq a b = 0#1 := by simp [Ideal.cmp, hlt.ne]
    have hp : pairMin (a, x) (b, y) = (a, x) := by
      simp [pairMin, h1, h2, hun, Scalar.select, IntOp.ori, IntOp.andi]
    rw [hp, min_eq_left]
    exact (Prod.Lex.toLex_le_toLex).mpr (Or.inl hlt)
  · subst heq
    have h1 : Ideal.cmp .olt a a = 0#1 := by simp [Ideal.cmp]
    have h2 : Ideal.cmp .oeq a a = 1#1 := by simp [Ideal.cmp]
    by_cases hxy : x.slt y
    · have hp : pairMin (a, x) (a, y) = (a, x) := by
        simp [pairMin, h1, h2, hun, Scalar.select, IntOp.ori, IntOp.andi, IntOp.cmpi, hxy]
      rw [hp, min_eq_left]
      rw [BitVec.slt_iff_toInt_lt] at hxy
      exact (Prod.Lex.toLex_le_toLex).mpr (Or.inr ⟨rfl, hxy.le⟩)
    · have hp : pairMin (a, x) (a, y) = (a, y) := by
        simp [pairMin, h1, h2, hun, Scalar.select, IntOp.ori, IntOp.andi, IntOp.cmpi, hxy]
      rw [hp, min_eq_right]
      rw [BitVec.slt_iff_toInt_lt] at hxy
      exact (Prod.Lex.toLex_le_toLex).mpr (Or.inr ⟨rfl, not_lt.mp hxy⟩)
  · have h1 : Ideal.cmp .olt a b = 0#1 := by simp [Ideal.cmp, not_lt.mpr hgt.le]
    have h2 : Ideal.cmp .oeq a b = 0#1 := by simp [Ideal.cmp, hgt.ne']
    have hp : pairMin (a, x) (b, y) = (b, y) := by
      simp [pairMin, h1, h2, hun, Scalar.select, IntOp.ori, IntOp.andi]
    rw [hp, min_eq_right]
    exact (Prod.Lex.toLex_le_toLex).mpr (Or.inl hgt)

/-- The fold over a list is below its start and every member. -/
theorem key_foldl_le (L : List (EReal × BitVec 32)) : ∀ a : EReal × BitVec 32,
    key (L.foldl pairMin a) ≤ key a ∧ ∀ p ∈ L, key (L.foldl pairMin a) ≤ key p := by
  induction L with
  | nil => exact fun a => ⟨le_rfl, fun p hp => nomatch hp⟩
  | cons b L ih =>
    intro a
    obtain ⟨h1, h2⟩ := ih (pairMin a b)
    rw [key_pairMin] at h1
    refine ⟨h1.trans (min_le_left _ _), fun p hp => ?_⟩
    rcases List.mem_cons.mp hp with rfl | hp
    · exact h1.trans (min_le_right _ _)
    · exact h2 p hp

/-- The fold over a list is above whatever is below its start and every member. -/
theorem le_key_foldl (L : List (EReal × BitVec 32)) (c : EReal ×ₗ ℤ) : ∀ a : EReal × BitVec 32,
    c ≤ key a → (∀ p ∈ L, c ≤ key p) → c ≤ key (L.foldl pairMin a) := by
  induction L with
  | nil => exact fun a h _ => h
  | cons b L ih =>
    intro a ha hL
    refine ih _ ?_ fun p hp => hL p (List.mem_cons_of_mem _ hp)
    rw [key_pairMin]
    exact le_min ha (hL b (List.mem_cons_self ..))

/-- A list whose pairs are a row's values and indices, folded from the top: the index of the first minimum. -/
theorem foldl_pairMin_eq (L : List (EReal × BitVec 32)) (d : Fin 512 → EReal)
    (hL : ∀ p, p ∈ L ↔ ∃ k : Fin 512, (d k, BitVec.ofNat 32 k.val) = p) {k : Fin 512}
    (hk : ∀ i, d k ≤ d i) (hk' : ∀ i, i < k → d k < d i) (htop : d k < ⊤) :
    L.foldl pairMin (⊤, 0#32) = (d k, BitVec.ofNat 32 k.val) := by
  apply key_injective
  refine le_antisymm ((key_foldl_le L _).2 _ ((hL _).mpr ⟨k, rfl⟩)) (le_key_foldl L _ _ ?_ ?_)
  · exact (Prod.Lex.toLex_le_toLex).mpr (Or.inl htop)
  · intro p hp
    obtain ⟨i, rfl⟩ := (hL p).mp hp
    refine (Prod.Lex.toLex_le_toLex).mpr ?_
    rcases lt_or_ge i k with hi | hi
    · exact Or.inl (hk' i hi)
    · rcases (hk i).lt_or_eq with h | h
      · exact Or.inl h
      · refine Or.inr ⟨h, ?_⟩
        show (BitVec.ofNat 32 k.val).toInt ≤ (BitVec.ofNat 32 i.val).toInt
        rw [toInt_word (by omega), toInt_word (by omega)]
        rw [Fin.le_def] at hi; omega

/-- The reference's logarithm of a probability at an index of the row. -/
def logProb (l : Fin 512 → EReal) (k : Fin 512) : EReal :=
  (l k - max ⊥ (rowMax l)) - Ideal.log (∑ x, Ideal.exp (l x - max ⊥ (rowMax l)))

/-- The reference's negated log-probability, on real logits, is the real one. -/
theorem neg_logProb_coe (l : Fin 512 → ℝ) (k : Fin 512) {j : Fin 512} (hj : ∀ i, l i ≤ l j) :
    -(logProb (fun i => (l i : EReal)) k) = ((realLse l (l j) - l k : ℝ) : EReal) := by
  unfold logProb
  rw [rowMax_coe l hj, max_eq_right bot_le, log_sum_exp_coe, ← EReal.coe_sub, ← EReal.coe_sub, ← EReal.coe_neg]
  congr 1
  unfold realLse
  ring

/-! ## Distances and scores -/

/-- Over a codebook whose rows have one norm, the squared distance of a scaled row orders the codes as the scores do,
    the other way about. -/
theorem sq_dist_eq {n : ℕ} (g c : Fin n → ℝ) (D N : ℝ) (hN : ∑ v, c v * c v = N) :
    ∑ v, (g v / D - c v) * (g v / D - c v) = (∑ v, (g v / D) * (g v / D)) + N - 2 / D * ∑ v, g v * c v := by
  rw [← hN, Finset.mul_sum, ← Finset.sum_add_distrib, ← Finset.sum_sub_distrib]
  exact Finset.sum_congr rfl fun v _ => by ring

/-- The distance, as a real number. -/
def realDist (g c : Fin 32 → ℝ) (D : ℝ) : ℝ := Real.sqrt (∑ v, (g v / D - c v) * (g v / D - c v))

/-- Of two codes of one norm, the one with the greater or equal score is at most as far away. -/
theorem realDist_le {g : Fin 32 → ℝ} {a b : Fin 32 → ℝ} {D N : ℝ} (hD : 0 < D) (ha : ∑ v, a v * a v = N)
    (hb : ∑ v, b v * b v = N) (h : ∑ v, g v * b v ≤ ∑ v, g v * a v) : realDist g a D ≤ realDist g b D := by
  refine Real.sqrt_le_sqrt ?_
  rw [sq_dist_eq g a D N ha, sq_dist_eq g b D N hb]
  have := mul_le_mul_of_nonneg_left h (by positivity : (0 : ℝ) ≤ 2 / D)
  linarith

/-- Of two codes of one norm, the one with the greater score is nearer. -/
theorem realDist_lt {g : Fin 32 → ℝ} {a b : Fin 32 → ℝ} {D N : ℝ} (hD : 0 < D) (ha : ∑ v, a v * a v = N)
    (hb : ∑ v, b v * b v = N) (h : ∑ v, g v * b v < ∑ v, g v * a v) : realDist g a D < realDist g b D := by
  refine Real.sqrt_lt_sqrt (Finset.sum_nonneg fun v _ => mul_self_nonneg _) ?_
  rw [sq_dist_eq g a D N ha, sq_dist_eq g b D N hb]
  have := mul_lt_mul_of_pos_left h (by positivity : (0 : ℝ) < 2 / D)
  linarith

/-- The least divisor the reference's normalization allows. -/
def eps : ℝ := 9223372 / 2 ^ 63

/-- The normalization's floor, read from its single-precision pattern. -/
theorem ofBits_eps : Ideal.ofBits .f32 0x2B8CBCCC#32 = (eps : EReal) := by
  unfold eps
  simp [Ideal.ofBits, Ideal.ieee, -EReal.coe_mul]; norm_num

/-- The normalization's floor is positive. -/
theorem eps_pos : 0 < eps := by unfold eps; norm_num

/-- The divisor of the reference's normalization. -/
def divisor (g : Fin 32 → ℝ) : ℝ := max (Real.sqrt (∑ v, g v * g v)) eps

/-- The normalization's divisor is positive. -/
theorem divisor_pos (g : Fin 32 → ℝ) : 0 < divisor g := lt_max_of_lt_right eps_pos

/-- The square root of a sum of squares of reals. -/
theorem sqrt_sum_sq_coe (a : Fin 32 → ℝ) :
    Ideal.sqrt (∑ v, (a v : EReal) * (a v : EReal)) = ((Real.sqrt (∑ v, a v * a v) : ℝ) : EReal) := by
  simp only [← EReal.coe_mul]
  rw [sum_coe, Ideal.sqrt_coe, if_neg (not_lt.mpr (Finset.sum_nonneg fun v _ => mul_self_nonneg _))]

/-- The distance of the normalized row to a code, as the reference takes it. -/
def dist (g : Fin 32 → EReal) (c : Fin 32 → EReal) : EReal :=
  Ideal.sqrt (∑ v, (Ideal.div (g v) (max (Ideal.sqrt (∑ x, g x * g x)) (eps : EReal)) - c v)
    * (Ideal.div (g v) (max (Ideal.sqrt (∑ x, g x * g x)) (eps : EReal)) - c v))

/-- The reference's distance, on real values, is the real distance. -/
theorem dist_coe (g c : Fin 32 → ℝ) :
    dist (fun v => (g v : EReal)) (fun v => (c v : EReal)) = (realDist g c (divisor g) : EReal) := by
  unfold dist
  beta_reduce
  rw [sqrt_sum_sq_coe g, ← EReal.coe_strictMono.monotone.map_max]
  have hd : ∀ v, Ideal.div (g v : EReal) ((max (Real.sqrt (∑ v, g v * g v)) eps : ℝ) : EReal) - (c v : EReal)
      = ((g v / divisor g - c v : ℝ) : EReal) := by
    intro v
    show Ideal.div (g v : EReal) ((divisor g : ℝ) : EReal) - (c v : EReal) = _
    rw [Ideal.div_coe (divisor_pos g).ne', ← EReal.coe_mul, ← EReal.coe_sub, mul_one_div]
  simp only [hd]
  exact sqrt_sum_sq_coe fun v => g v / divisor g - c v

/-- Over a codebook whose rows have one norm, a list of a row's distances and indices, folded from the top, gives the
    index of the first maximum of the scores. -/
theorem nearest_eq (g : Fin 32 → ℝ) (c : Fin 512 → Fin 32 → ℝ) (N : ℝ) (hN : ∀ k, ∑ v, c k v * c k v = N) {k : Fin 512}
    (hk : FirstMax (fun i => ∑ v, g v * c i v) k) (L : List (EReal × BitVec 32))
    (hL : ∀ p, p ∈ L ↔ ∃ i : Fin 512,
      (dist (fun v => (g v : EReal)) (fun v => (c i v : EReal)), BitVec.ofNat 32 i.val) = p) :
    (L.foldl pairMin (⊤, 0#32)).2 = BitVec.ofNat 32 k.val := by
  have hd := foldl_pairMin_eq L (fun i => dist (fun v => (g v : EReal)) (fun v => (c i v : EReal))) hL (k := k)
    (fun i => by
      simp only [dist_coe]
      exact EReal.coe_le_coe_iff.mpr (realDist_le (divisor_pos g) (hN k) (hN i) (hk.1 i)))
    (fun i hi => by
      simp only [dist_coe]
      exact EReal.coe_lt_coe_iff.mpr (realDist_lt (divisor_pos g) (hN k) (hN i) (hk.2 i hi)))
    (by simp only [dist_coe]; exact EReal.coe_lt_top _)
  rw [hd]

end Cert.Rows

end
-- ==== Proof.Block.lean ====
/-
  What one grid point adds to the accumulator: the mean's share of its 512 rows.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Hand

open Idealize.ShloMosaic Idealize.ShloMosaic.TcCoe
open Cert.KernelIdeal Cert.KernelIdeal.Gen

/-- The scores of a block's row. -/
def scoreRow (v0 : FVec Ideal S512x512 .f32) (v2 : FVec Ideal S512x32 .f32) (v4 : FVec Ideal S32x512 .f32)
    (r k : Fin 512) : EReal :=
  ∑ y : Fin 32, (∑ d : Fin 512, v0 (ix2 r d) * v2 (ix2 d y)) * v4 (ix2 y k)

/-- The logits of a block's row. -/
def logitRow (v7 v9 : FVec Ideal S512x512 .f32) (v11 : FVec Ideal S1x512 .f32) (r k : Fin 512) : EReal :=
  ∑ d : Fin 512, v7 (ix2 r d) * v9 (ix2 d k) + v11 (ix2 0 k)

/-- The sum of a block's rows, over the number of all rows. -/
def blockPart (v0 : FVec Ideal S512x512 .f32) (v2 : FVec Ideal S512x32 .f32) (v4 : FVec Ideal S32x512 .f32)
    (v7 v9 : FVec Ideal S512x512 .f32) (v11 : FVec Ideal S1x512 .f32) : EReal :=
  (∑ r : Fin 512, Rows.kernelRow (scoreRow v0 v2 v4 r) (logitRow v7 v9 v11 r)) * Ideal.ofBits .f32 0x39800000#32

/-- The single-precision pattern of minus infinity is the bottom of the extended reals. -/
theorem ofBits_bot : Ideal.ofBits .f32 0xFF800000#32 = ⊥ := by simp [Ideal.ofBits, Ideal.ieee]

/-- The block's logits at an index. -/
theorem pay3_read (v7 v9 : FVec Ideal S512x512 .f32) (v11 : FVec Ideal S1x512 .f32) (r k : Fin 512) :
    (k0_pay3 (F := Ideal) v7 v9 v11 (ix2 r k) : EReal) = logitRow v7 v9 v11 r k := by
  unfold logitRow
  pointwise [k0_pay3]

/-- The logarithm of a row's summed exponentials. -/
theorem pay4_read (v7 v9 : FVec Ideal S512x512 .f32) (v11 : FVec Ideal S1x512 .f32) (r : Fin 512) :
    (k0_pay4 (F := Ideal) v7 v9 v11 (ix1 r) : EReal) = Rows.lse (logitRow v7 v9 v11 r) := by
  have e : (k0_pay4 (F := Ideal) v7 v9 v11 (ix1 r) : EReal) = Rows.lse (fun k => k0_pay3 (F := Ideal) v7 v9 v11 (ix2 r k)) := by
    unfold Rows.lse Rows.rowMax
    rw [← ofBits_bot]
    pointwise [k0_pay4]
  rw [e]
  simp only [pay3_read]

/-- The logit kept at the row's first greatest score, zero elsewhere. -/
theorem pay5_read (v0 : FVec Ideal S512x512 .f32) (v2 : FVec Ideal S512x32 .f32) (v4 : FVec Ideal S32x512 .f32)
    (v7 v9 : FVec Ideal S512x512 .f32) (v11 : FVec Ideal S1x512 .f32) (r k : Fin 512) :
    (k0_pay5 (F := Ideal) v0 v2 v4 v7 v9 v11 (ix2 r k) : EReal) = Scalar.select
      (IntOp.cmpi .eq (BitVec.ofNat 32 k.val) (Rows.firstWord (scoreRow v0 v2 v4 r))) (logitRow v7 v9 v11 r k) 0 := by
  rw [← pay3_read]
  unfold Rows.firstWord Rows.rowMax scoreRow
  rw [← ofBits_bot]
  pointwise [k0_pay5]

/-- One point's accumulation: what was there, plus the block's part. -/
theorem pay2_read (v0 : FVec Ideal S512x512 .f32) (v2 : FVec Ideal S512x32 .f32) (v4 : FVec Ideal S32x512 .f32)
    (v7 v9 : FVec Ideal S512x512 .f32) (v11 : FVec Ideal S1x512 .f32) (acc : FVec Ideal S1x1 .f32) (j : S1x1.Idx) :
    k0_pay2 (F := Ideal) (k0_pay4 v7 v9 v11) (k0_pay5 v0 v2 v4 v7 v9 v11) acc j = acc j + blockPart v0 v2 v4 v7 v9 v11 := by
  have e : ∀ (a : FVec Ideal S512 .f32) (b : FVec Ideal S512x512 .f32), k0_pay2 (F := Ideal) a b acc j
      = acc j + (∑ x : Fin 512, (a (ix1 x) - ∑ y : Fin 512, b (ix2 x y))) * Ideal.ofBits .f32 0x39800000#32 := by
    intro a b
    pointwise [k0_pay2]
  rw [e]
  simp only [pay4_read, pay5_read]
  rfl

/-- The accumulator's first contents. -/
theorem pay1_read (j : S1x1.Idx) : k0_pay1 (F := Ideal) j = 0 := by
  pointwise [k0_pay1]

end Cert.KernelIdeal.Hand

end
-- ==== Proof.KernelArray.lean ====
/-
  What the kernel's accumulator holds after the last point: the sum of the points' parts.
-/
module

public import proofs.«01_k».proof.Proof.Gen.KernelIdeal.Frame
public import proofs.«01_k».proof.Proof.Block
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- What point `t` adds to the accumulator. -/
def pointPart (c : Dev nD) (t : Fin cfg0.N) : EReal :=
  blockPart (iblk m c 0 t) (iblk m c 2 t) (iblk m c 3 t) (iblk m c 1 t) (iblk m c 4 t) (iblk m c 5 t)

/-- The accumulator's array after the run: the sum of the points' parts. -/
theorem final (c : Dev nD) : (dats m 0 c).arrAt 6 (cfgs 0).N = fun _ => ∑ t : Fin cfg0.N, pointPart m c t := by
  refine (dats m 0 c).arrAt_eq_of_after_last 6 t0_7 (by decide +kernel) _ fun j => ?_
  blk_simp
  rw [after0_6, Pipeline.eq_sum_fin_of_reset_step_apply_last (fun n h => outsAt0 m c n h) 8 (fun _ => 0)
    (fun p _ => pointPart m c p)
    (fun t h j => by rw [outsAt0_A m c t h]; frame_out; rw [pay2_read, pay1_read]; rfl)
    (fun t h j => by rw [outsAt0_B m c t h]; frame_out; rw [pay2_read]; rfl)
    (le_of_eq N_0) t0_7 rfl j, zero_add]

end Cert.KernelIdeal.Hand

end
-- ==== Proof.KernelEntry.lean ====
/-
  What a point's input blocks hold: elements of the kernel's arguments.
-/
module

public import proofs.«01_k».proof.Proof.KernelArray

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices at every point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] :=
  (by decide +kernel : ∀ t : Fin grid0.N, _)

/-- The row of the flattened arrays that a point's block holds at row `r`. -/
def rowAt (t : Fin cfg0.N) (r : Fin 512) : Fin 4096 :=
  ⟨t.val * 512 + r.val, by have := lt_of_lt_of_eq t.isLt N_0; omega⟩

/-- The flattened features, at the region's entry. -/
theorem entry_feats (c : Dev nD) : V m c main_v0
    = (shapeCast S4096x512 (m ((c : Thread nD τ).loc main_arg0)) shapeCasts_S4x1024x512_S4096x512 : FVec Ideal S4096x512 .f32) := by
  show StableHlo.after hostOps0 _ _ = _
  unfold hostOps0
  after_results
  rfl

/-- The flattened context, at the region's entry. -/
theorem entry_context (c : Dev nD) : V m c main_v1
    = (shapeCast S4096x512 (m ((c : Thread nD τ).loc main_arg1)) shapeCasts_S4x1024x512_S4096x512 : FVec Ideal S4096x512 .f32) := by
  show StableHlo.after hostOps0 _ _ = _
  unfold hostOps0
  after_results
  rfl

/-- The transposed codebook, at the region's entry. -/
theorem entry_codebook (c : Dev nD) : V m c main_v2
    = (transpose S32x512 [1, 0] (m ((c : Thread nD τ).loc main_arg3)) transposes_S512x32_S32x512_1_0 : FVec Ideal S32x512 .f32) := by
  show StableHlo.after hostOps0 _ _ = _
  unfold hostOps0
  after_results

/-- The bias as a row, at the region's entry. -/
theorem entry_bias (c : Dev nD) : V m c main_v3
    = (shapeCast S1x512 (m ((c : Thread nD τ).loc main_arg5)) shapeCasts_S512_S1x512 : FVec Ideal S1x512 .f32) := by
  show StableHlo.after hostOps0 _ _ = _
  unfold hostOps0
  after_results
  rfl

/-- A flattened array at a row: the array at the row's two coordinates. -/
theorem flat_read (x : FVec Ideal S4x1024x512 .f32) (n : Fin 4096) (k : Fin 512) :
    (shapeCast S4096x512 x shapeCasts_S4x1024x512_S4096x512 : FVec Ideal S4096x512 .f32) (ix2 n k)
      = x (ix3 ⟨n.val / 1024, by omega⟩ ⟨n.val % 1024, by omega⟩ k) := by
  pointwise

/-- A transposed codebook at an index. -/
theorem transpose_read (x : FVec Ideal S512x32 .f32) (v : Fin 32) (k : Fin 512) :
    (transpose S32x512 [1, 0] x transposes_S512x32_S32x512_1_0 : FVec Ideal S32x512 .f32) (ix2 v k) = x (ix2 k v) := by
  pointwise

/-- A vector as a row, at an index. -/
theorem row_read (x : FVec Ideal S512 .f32) (k : Fin 512) :
    (shapeCast S1x512 x shapeCasts_S512_S1x512 : FVec Ideal S1x512 .f32) (ix2 0 k) = x (ix1 k) := by
  pointwise

/-- The features' block at an index. -/
theorem feats_read (c : Dev nD) (t : Fin cfg0.N) (r d : Fin 512) :
    (show FVec Ideal S512x512 .f32 from iblk m c 0 t) (ix2 r d)
      = (show FVec Ideal S4x1024x512 .f32 from m ((c : Thread nD τ).loc main_arg0))
        (ix3 ⟨(rowAt t r).val / 1024, by omega⟩ ⟨(rowAt t r).val % 1024, by omega⟩ d) := by
  have e : (((cfg0.win 0).blk t).view.emb (ix2 r d) : S4096x512.Idx) = ix2 (rowAt t r) d := by
    unfold rowAt
    blk_ext [idx t]
  refine Eq.trans ?_ (flat_read (m ((c : Thread nD τ).loc main_arg0)) (rowAt t r) d)
  rw [← entry_feats, ← e]
  rfl

/-- The context's block at an index. -/
theorem context_read (c : Dev nD) (t : Fin cfg0.N) (r d : Fin 512) :
    (show FVec Ideal S512x512 .f32 from iblk m c 1 t) (ix2 r d)
      = (show FVec Ideal S4x1024x512 .f32 from m ((c : Thread nD τ).loc main_arg1))
        (ix3 ⟨(rowAt t r).val / 1024, by omega⟩ ⟨(rowAt t r).val % 1024, by omega⟩ d) := by
  have e : (((cfg0.win 1).blk t).view.emb (ix2 r d) : S4096x512.Idx) = ix2 (rowAt t r) d := by
    unfold rowAt
    blk_ext [idx t]
  refine Eq.trans ?_ (flat_read (m ((c : Thread nD τ).loc main_arg1)) (rowAt t r) d)
  rw [← entry_context, ← e]
  rfl

/-- The projection's block is the projection. -/
theorem proj_read (c : Dev nD) (t : Fin cfg0.N) (d : Fin 512) (v : Fin 32) :
    (show FVec Ideal S512x32 .f32 from iblk m c 2 t) (ix2 d v)
      = (show FVec Ideal S512x32 .f32 from m ((c : Thread nD τ).loc main_arg2)) (ix2 d v) := by
  blk_point [iblk, V, idx t]

/-- The codebook's block is the codebook, transposed. -/
theorem codebook_read (c : Dev nD) (t : Fin cfg0.N) (v : Fin 32) (k : Fin 512) :
    (show FVec Ideal S32x512 .f32 from iblk m c 3 t) (ix2 v k)
      = (show FVec Ideal S512x32 .f32 from m ((c : Thread nD τ).loc main_arg3)) (ix2 k v) := by
  have e : (((cfg0.win 3).blk t).view.emb (ix2 v k) : S32x512.Idx) = ix2 v k := by
    blk_ext [idx t]
  refine Eq.trans ?_ (transpose_read (m ((c : Thread nD τ).loc main_arg3)) v k)
  rw [← entry_codebook]
  exact congrArg (V m c main_v2) e

/-- The encoder's block is the encoder's matrix. -/
theorem enc_read (c : Dev nD) (t : Fin cfg0.N) (d k : Fin 512) :
    (show FVec Ideal S512x512 .f32 from iblk m c 4 t) (ix2 d k)
      = (show FVec Ideal S512x512 .f32 from m ((c : Thread nD τ).loc main_arg4)) (ix2 d k) := by
  blk_point [iblk, V, idx t]

/-- The bias's block is the bias, as a row. -/
theorem bias_read (c : Dev nD) (t : Fin cfg0.N) (k : Fin 512) :
    (show FVec Ideal S1x512 .f32 from iblk m c 5 t) (ix2 0 k)
      = (show FVec Ideal S512 .f32 from m ((c : Thread nD τ).loc main_arg5)) (ix1 k) := by
  have e : (((cfg0.win 5).blk t).view.emb (ix2 0 k) : S1x512.Idx) = ix2 0 k := by
    blk_ext [idx t]
  refine Eq.trans ?_ (row_read (m ((c : Thread nD τ).loc main_arg5)) k)
  rw [← entry_bias]
  exact congrArg (V m c main_v3) e

/-- The kernel's result after the run: the sum of the points' parts. -/
theorem result (c : Dev nD) :
    (show FVec Ideal S_ .f32 from Pipeline.afterTail₀ cfgs (dats m) 0 (V0 m) [hostOps1] c main_v5)
      = fun _ => ∑ t : Fin cfg0.N, pointPart m c t := by
  have h := final m c
  unfold Pipeline.afterTail₀
  show StableHlo.after hostOps1 _ _ = _
  unfold hostOps1
  after_results
  erw [Pipeline.withArrays_arr _ launch0.win.arr_inj c _ _ 6, h]
  funext j
  rfl

end Cert.KernelIdeal.Hand

end
-- ==== Proof.Spec.lean ====
/-
  The loss of one row over real arguments: its codebook scores, its logits, and the number both programs compute.
-/
module

public import proofs.«01_k».proof.Proof.Rows

@[expose] public section

noncomputable section

namespace Cert.Rows

open Idealize.ShloMosaic

/-- A row of features, projected. -/
def latentAt (f : Fin 512 → ℝ) (P : Fin 512 → Fin 32 → ℝ) (v : Fin 32) : ℝ := ∑ d, f d * P d v

/-- A projected row's score with every code. -/
def scoreAt (f : Fin 512 → ℝ) (P : Fin 512 → Fin 32 → ℝ) (C : Fin 512 → Fin 32 → ℝ) (k : Fin 512) : ℝ :=
  ∑ v, latentAt f P v * C k v

/-- A row of the context's logits. -/
def logitAt (x : Fin 512 → ℝ) (W : Fin 512 → Fin 512 → ℝ) (b : Fin 512 → ℝ) (k : Fin 512) : ℝ := ∑ d, x d * W d k + b k

/-- The first index at which a row of reals is greatest. -/
def firstIdx (s : Fin 512 → ℝ) : Fin 512 := Classical.choose (exists_firstMax s)

/-- It is the first maximum. -/
theorem firstIdx_spec (s : Fin 512 → ℝ) : FirstMax s (firstIdx s) := Classical.choose_spec (exists_firstMax s)

/-- The loss of a row of scores `s` and logits `l`: the logarithm of the summed exponentials of the logits, less the
    logit at the first greatest score. -/
def rowLoss (s l : Fin 512 → ℝ) : ℝ := realLse l (l (firstIdx l)) - l (firstIdx s)

/-- The kernel's row is the row's loss. -/
theorem kernelRow_eq (s l : Fin 512 → ℝ) :
    kernelRow (fun i => (s i : EReal)) (fun i => (l i : EReal)) = (rowLoss s l : EReal) :=
  kernelRow_coe s l (firstIdx_spec s) (firstIdx_spec l).1

/-- The reference's negated logarithm of the probability at the first greatest score is the row's loss. -/
theorem neg_logProb_eq (s l : Fin 512 → ℝ) :
    -(logProb (fun i => (l i : EReal)) (firstIdx s)) = (rowLoss s l : EReal) :=
  neg_logProb_coe l (firstIdx s) (firstIdx_spec l).1

/-- Projecting real features gives the real projection. -/
theorem latentAt_coe (f : Fin 512 → ℝ) (P : Fin 512 → Fin 32 → ℝ) (v : Fin 32) :
    ∑ d, (f d : EReal) * (P d v : EReal) = (latentAt f P v : EReal) := by
  simp only [← EReal.coe_mul]
  exact sum_coe _

/-- The scores of a real row are the real scores. -/
theorem scoreAt_coe (f : Fin 512 → ℝ) (P : Fin 512 → Fin 32 → ℝ) (C : Fin 512 → Fin 32 → ℝ) (k : Fin 512) :
    ∑ v, (latentAt f P v : EReal) * (C k v : EReal) = (scoreAt f P C k : EReal) := by
  simp only [← EReal.coe_mul]
  exact sum_coe _

/-- The logits of a real row are the real logits. -/
theorem logitAt_coe (x : Fin 512 → ℝ) (W : Fin 512 → Fin 512 → ℝ) (b : Fin 512 → ℝ) (k : Fin 512) :
    ∑ d, (x d : EReal) * (W d k : EReal) + (b k : EReal) = (logitAt x W b k : EReal) := by
  simp only [← EReal.coe_mul]
  rw [sum_coe, ← EReal.coe_add]
  rfl

end Cert.Rows

end
-- ==== Proof.KernelValue.lean ====
/-
  What the kernel computes on real arguments: the mean of the rows' losses.
-/
module

public import proofs.«01_k».proof.Proof.KernelEntry
public import proofs.«01_k».proof.Proof.Spec

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The loss of flattened row `r`, on real arguments. -/
def lossAt (a0 a1 : S4x1024x512.Idx → ℝ) (a2 a3 : S512x32.Idx → ℝ) (a4 : S512x512.Idx → ℝ) (a5 : S512.Idx → ℝ)
    (r : Fin 4096) : ℝ :=
  Rows.rowLoss
    (Rows.scoreAt (fun d => a0 (ix3 ⟨r.val / 1024, by omega⟩ ⟨r.val % 1024, by omega⟩ d)) (fun d v => a2 (ix2 d v))
      (fun k v => a3 (ix2 k v)))
    (Rows.logitAt (fun d => a1 (ix3 ⟨r.val / 1024, by omega⟩ ⟨r.val % 1024, by omega⟩ d)) (fun d k => a4 (ix2 d k))
      (fun k => a5 (ix1 k)))

/-- The single-precision pattern of 1/4096. -/
theorem ofBits_share : Ideal.ofBits .f32 0x39800000#32 = ((1 / 4096 : ℝ) : EReal) := by
  simp [Ideal.ofBits, Ideal.ieee, -EReal.coe_mul]; norm_num

/-- The single-precision pattern of 4096. -/
theorem ofBits_count : Ideal.ofBits .f32 0x45800000#32 = ((4096 : ℝ) : EReal) := by
  simp [Ideal.ofBits, Ideal.ieee, -EReal.coe_mul]; norm_num

variable (c : Dev nD) (a0 a1 : S4x1024x512.Idx → ℝ) (a2 a3 : S512x32.Idx → ℝ) (a4 : S512x512.Idx → ℝ) (a5 : S512.Idx → ℝ)

/-- A row's scores in a point's blocks, on real arguments. -/
theorem scoreRow_coe (h0 : m ((c.tc : Thread nD τ).loc main_arg0) = fun i => (a0 i : EReal))
    (h2 : m ((c.tc : Thread nD τ).loc main_arg2) = fun i => (a2 i : EReal))
    (h3 : m ((c.tc : Thread nD τ).loc main_arg3) = fun i => (a3 i : EReal)) (t : Fin cfg0.N) (r : Fin 512) :
    scoreRow (iblk m c 0 t) (iblk m c 2 t) (iblk m c 3 t) r
      = fun k => (Rows.scoreAt (fun d => a0 (ix3 ⟨(rowAt t r).val / 1024, by omega⟩ ⟨(rowAt t r).val % 1024, by omega⟩ d))
          (fun d v => a2 (ix2 d v)) (fun k v => a3 (ix2 k v)) k : EReal) := by
  funext k
  rw [← Rows.scoreAt_coe]
  refine Finset.sum_congr rfl fun v _ => ?_
  rw [← Rows.latentAt_coe]
  refine congrArg₂ (· * ·) (Finset.sum_congr rfl fun d _ => congrArg₂ (· * ·) ?_ ?_) ?_
  · exact (feats_read m c t r d).trans (congrFun h0 _)
  · exact (proj_read m c t d v).trans (congrFun h2 _)
  · exact (codebook_read m c t v k).trans (congrFun h3 _)

/-- A row's logits in a point's blocks, on real arguments. -/
theorem logitRow_coe (h1 : m ((c.tc : Thread nD τ).loc main_arg1) = fun i => (a1 i : EReal))
    (h4 : m ((c.tc : Thread nD τ).loc main_arg4) = fun i => (a4 i : EReal))
    (h5 : m ((c.tc : Thread nD τ).loc main_arg5) = fun i => (a5 i : EReal)) (t : Fin cfg0.N) (r : Fin 512) :
    logitRow (iblk m c 1 t) (iblk m c 4 t) (iblk m c 5 t) r
      = fun k => (Rows.logitAt (fun d => a1 (ix3 ⟨(rowAt t r).val / 1024, by omega⟩ ⟨(rowAt t r).val % 1024, by omega⟩ d))
          (fun d k => a4 (ix2 d k)) (fun k => a5 (ix1 k)) k : EReal) := by
  funext k
  rw [← Rows.logitAt_coe]
  refine congrArg₂ (· + ·) (Finset.sum_congr rfl fun d _ => congrArg₂ (· * ·) ?_ ?_) ?_
  · exact (context_read m c t r d).trans (congrFun h1 _)
  · exact (enc_read m c t d k).trans (congrFun h4 _)
  · exact (bias_read m c t k).trans (congrFun h5 _)

/-- A point's part, on real arguments: its rows' losses, summed, over the number of all rows. -/
theorem pointPart_coe (h0 : m ((c.tc : Thread nD τ).loc main_arg0) = fun i => (a0 i : EReal))
    (h1 : m ((c.tc : Thread nD τ).loc main_arg1) = fun i => (a1 i : EReal))
    (h2 : m ((c.tc : Thread nD τ).loc main_arg2) = fun i => (a2 i : EReal))
    (h3 : m ((c.tc : Thread nD τ).loc main_arg3) = fun i => (a3 i : EReal))
    (h4 : m ((c.tc : Thread nD τ).loc main_arg4) = fun i => (a4 i : EReal))
    (h5 : m ((c.tc : Thread nD τ).loc main_arg5) = fun i => (a5 i : EReal)) (t : Fin cfg0.N) :
    pointPart m c t = (((∑ r : Fin 512, lossAt a0 a1 a2 a3 a4 a5 (rowAt t r)) * (1 / 4096) : ℝ) : EReal) := by
  unfold pointPart blockPart
  rw [ofBits_share, EReal.coe_mul, ← Rows.sum_coe]
  refine congrArg (· * _) (Finset.sum_congr rfl fun r _ => ?_)
  rw [scoreRow_coe m c a0 a2 a3 h0 h2 h3 t r, logitRow_coe m c a1 a4 a5 h1 h4 h5 t r]
  exact Rows.kernelRow_eq _ _

/-- The points' parts add up to the mean of all rows' losses. -/
theorem parts_sum (f : Fin 4096 → ℝ) :
    ∑ t : Fin cfg0.N, (((∑ r : Fin 512, f (rowAt t r)) * (1 / 4096) : ℝ) : EReal)
      = Ideal.div (∑ r : Fin 4096, (f r : EReal)) (Ideal.ofBits .f32 0x45800000#32) := by
  rw [ofBits_count, Ideal.div_coe (by norm_num), Rows.sum_coe, Rows.sum_coe, ← EReal.coe_mul, ← Finset.sum_mul,
    Fin.sum_univ_tiles 8 512 rfl f]
  rfl

/-- The kernel's result on real arguments: the mean of all rows' losses. -/
theorem result_coe (h0 : m ((c.tc : Thread nD τ).loc main_arg0) = fun i => (a0 i : EReal))
    (h1 : m ((c.tc : Thread nD τ).loc main_arg1) = fun i => (a1 i : EReal))
    (h2 : m ((c.tc : Thread nD τ).loc main_arg2) = fun i => (a2 i : EReal))
    (h3 : m ((c.tc : Thread nD τ).loc main_arg3) = fun i => (a3 i : EReal))
    (h4 : m ((c.tc : Thread nD τ).loc main_arg4) = fun i => (a4 i : EReal))
    (h5 : m ((c.tc : Thread nD τ).loc main_arg5) = fun i => (a5 i : EReal)) :
    (show FVec Ideal S_ .f32 from Pipeline.afterTail₀ cfgs (dats m) 0 (V0 m) [hostOps1] c main_v5)
      = fun _ => Ideal.div (∑ r : Fin 4096, (lossAt a0 a1 a2 a3 a4 a5 r : EReal)) (Ideal.ofBits .f32 0x45800000#32) := by
  rw [result m c]
  funext _
  rw [← parts_sum]
  exact Finset.sum_congr rfl fun t _ => pointPart_coe m c a0 a1 a2 a3 a4 a5 h0 h1 h2 h3 h4 h5 t

end Cert.KernelIdeal.Hand

end
-- ==== Proof.PreFacts.lean ====
/-
  What the precondition says: real arguments, and codebook rows of one norm.
-/
module

public import proofs.«01_k».proof.Proof.Gen.Pre_inputs_ok
public import proofs.«01_k».proof.Proof.Rows
public import Idealize.ShloMosaic.Lib.Pointwise
public import Idealize.ShloMosaic.Lib.ReduceAll

@[expose] public section

set_option maxRecDepth 16384

noncomputable section

namespace Cert.Pre_inputs_ok.Hand

open Idealize.ShloMosaic Idealize.SL.Sem
open Cert.Pre_inputs_ok Cert.Pre_inputs_ok.Facts

/-- The single-precision pattern of infinity is the top of the extended reals. -/
theorem ofBits_top : Ideal.ofBits .f32 0x7F800000#32 = ⊤ := by
  simp [Ideal.ofBits, Ideal.ieee]

/-- The printed test "every magnitude is less than infinity" of an array of any shape. -/
def allFinite {s : Shape} {axes : List (Fin s.rank)} (x : FVec Ideal s .f32) (hb : S_.BroadcastsInDim s ![])
    (h : s.ReducesTo axes S_) : IVec S_ 1 :=
  Host.reduce IntOp.andi (cmpf .olt (Host.absf x) (broadcastInDim s ![] hb (constant S_ .f32 0x7F800000#32)))
    (constantI S_ 1 1#1) h h_S_

/-- An array whose every magnitude is less than infinity is an array of reals. -/
theorem real_of_allFinite {s : Shape} {axes : List (Fin s.rank)} (x : FVec Ideal s .f32)
    (hb : S_.BroadcastsInDim s ![]) (h : s.ReducesTo axes S_) (e : allFinite x hb h ix0 = 1#1) :
    ∃ A : s.Idx → ℝ, x = fun i => (A i : EReal) := by
  have hlt : ∀ i, max (x i) (-(x i)) < ⊤ := fun i => by
    have : Subsingleton S_.Idx := ⟨fun a b => funext fun k => k.elim0⟩
    have hi := (Ideal.cmp_olt_eq_one _ _).1 (Host.reduce_andi_all _ _ h h_S_ ix0 e i)
    have hr : broadcastInDim s ![] hb (constant (F := Ideal) S_ .f32 0x7F800000#32) i = ⊤ := ofBits_top
    rw [hr] at hi
    exact hi
  refine ⟨fun i => (x i).toReal, funext fun i => (EReal.coe_toReal ?_ ?_).symm⟩
  · intro hx
    have := hlt i
    rw [hx] at this
    simp at this
  · intro hx
    have := hlt i
    rw [hx] at this
    simp at this

/-- The squared norms of the rows, as printed. -/
def norms (a3 : FVec Ideal S512x32 .f32) : FVec Ideal S512 .f32 :=
  Host.reduceAdd (mulf a3 a3) (constant S_ .f32 0x00000000#32) reducesTo_S512x32_S512_d1 h_S_

/-- The printed test "every row's squared norm is the first row's". -/
def allEqual (a3 : FVec Ideal S512x32 .f32) : IVec S_ 1 :=
  Host.reduce IntOp.andi (cmpf .oeq (norms a3) (broadcastInDim S512 ![] bcast_S_S512
    (shapeCast S_ (extractStridedSlice S1 ![0] (norms a3) slices_S512_S1_0) shapeCasts_S1_S_)))
    (constantI S_ 1 1#1) reducesTo_S512_S_d0 h_S_

/-- The precondition as printed is the conjunction of its seven tests. -/
theorem fn_eq (a0 a1 : FVec Ideal S4x1024x512 .f32) (a2 a3 : FVec Ideal S512x32 .f32) (a4 : FVec Ideal S512x512 .f32)
    (a5 : FVec Ideal S512 .f32) :
    fn (F := Ideal) a0 a1 a2 a3 a4 a5
      = andi (andi (andi (andi (andi (andi (allFinite a0 bcast_S_S4x1024x512 reducesTo_S4x1024x512_S_d0_1_2)
          (allFinite a1 bcast_S_S4x1024x512 reducesTo_S4x1024x512_S_d0_1_2))
          (allFinite a2 bcast_S_S512x32 reducesTo_S512x32_S_d0_1))
          (allFinite a3 bcast_S_S512x32 reducesTo_S512x32_S_d0_1))
          (allFinite a4 bcast_S_S512x512 reducesTo_S512x512_S_d0_1))
          (allFinite a5 bcast_S_S512 reducesTo_S512_S_d0))
          (allEqual a3) := rfl

/-- A row's squared norm, of an array of reals. -/
theorem norms_coe (A : S512x32.Idx → ℝ) (k : Fin 512) :
    norms (fun i => (A i : EReal)) (ix1 k) = ((∑ v : Fin 32, A (ix2 k v) * A (ix2 k v) : ℝ) : EReal) := by
  rw [← Cert.Rows.sum_coe]
  pointwise [norms]
  simp [EReal.coe_mul]

/-- The first element, sliced out and spread over all rows. -/
theorem first_read (x : FVec Ideal S512 .f32) (k : Fin 512) :
    broadcastInDim S512 ![] bcast_S_S512
      (shapeCast S_ (extractStridedSlice S1 ![0] x slices_S512_S1_0) shapeCasts_S1_S_) (ix1 k) = x (ix1 0) := by
  pointwise

/-- If every test passes, all six arrays are arrays of reals and the codebook's rows share one squared norm. -/
theorem real_inputs (a0 a1 : FVec Ideal S4x1024x512 .f32) (a2 a3 : FVec Ideal S512x32 .f32)
    (a4 : FVec Ideal S512x512 .f32) (a5 : FVec Ideal S512 .f32)
    (e : fn (F := Ideal) a0 a1 a2 a3 a4 a5 = fun _ => 1#1) :
    (∃ A : S4x1024x512.Idx → ℝ, a0 = fun i => (A i : EReal)) ∧ (∃ A : S4x1024x512.Idx → ℝ, a1 = fun i => (A i : EReal))
      ∧ (∃ A : S512x32.Idx → ℝ, a2 = fun i => (A i : EReal))
      ∧ (∃ (A : S512x32.Idx → ℝ) (N : ℝ), (a3 = fun i => (A i : EReal))
          ∧ ∀ k : Fin 512, ∑ v : Fin 32, A (ix2 k v) * A (ix2 k v) = N)
      ∧ (∃ A : S512x512.Idx → ℝ, a4 = fun i => (A i : EReal)) ∧ (∃ A : S512.Idx → ℝ, a5 = fun i => (A i : EReal)) := by
  have h := congrFun ((fn_eq a0 a1 a2 a3 a4 a5).symm.trans e) ix0
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  obtain ⟨A, rfl⟩ := real_of_allFinite a3 _ _ h3
  refine ⟨real_of_allFinite a0 _ _ h0, real_of_allFinite a1 _ _ h1, real_of_allFinite a2 _ _ h2,
    ⟨A, ∑ v : Fin 32, A (ix2 0 v) * A (ix2 0 v), rfl, fun k => ?_⟩,
    real_of_allFinite a4 _ _ h4, real_of_allFinite a5 _ _ h5⟩
  have : Subsingleton S_.Idx := ⟨fun a b => funext fun k => k.elim0⟩
  have hk := (Ideal.cmp_oeq_eq_one _ _).1 (Host.reduce_andi_all _ _ reducesTo_S512_S_d0 h_S_ ix0 h6 (ix1 k))
  rw [first_read, norms_coe, norms_coe] at hk
  exact EReal.coe_eq_coe_iff.1 hk

end Cert.Pre_inputs_ok.Hand

end
-- ==== Proof.Gather.lean ====
/-
  The reference's gather, read at one row: the row's element at its index.
-/
module

public import proofs.«01_k».proof.Proof.RefStages
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Facts₀

/-- The gather's dimension numbers. -/
abbrev rowGather : GatherDims S4096x512 S4096x1x1 S4096x1 := gather_S4096x512_S4096x1x1_S4096x1_n_1_0_0_1_2_11

/-- The gather's result axes that come from its index array. -/
theorem rowGather_batchDims : rowGather.batchDims = [0, 1] := by decide +kernel

/-- The index array's axes that the gather's result keeps. -/
theorem rowGather_siKept : rowGather.siKept = [0, 1] := by decide +kernel

/-- The first axis of the start indices is read at the result's row. -/
theorem rowGather_siCoord (j : S4096x1.Idx) (hb : (0 : Fin 3) ∈ rowGather.siKept) :
    (rowGather.siCoord j 0 hb).val = (j 0).val := by
  unfold GatherDims.siCoord
  simp only [Fin.val_cast, rowGather_batchDims, rowGather_siKept]
  rfl

/-- The start index of row `r` is read at row `r`. -/
theorem rowGather_siIdx (r : Fin 4096) (q : Fin rowGather.startIndexMap.length) :
    rowGather.siIdx (ix2 r 0) q = ix3 r 0 0 := by
  funext b
  apply Fin.ext
  match b with
  | ⟨0, _⟩ =>
    have h0 : ¬((0 : Fin 3).val = rowGather.indexVectorDim) := by decide
    have e : rowGather.siIdx (ix2 r 0) q (0 : Fin 3) = rowGather.siCoord (ix2 r 0) (0 : Fin 3) (by decide +kernel) := dif_neg h0
    exact (congrArg Fin.val e).trans (rowGather_siCoord (ix2 r 0) _)
  | ⟨1, h⟩ => exact Nat.lt_one_iff.1 (show (rowGather.siIdx (ix2 r 0) q ⟨1, h⟩).val < 1 from Fin.isLt _)
  | ⟨2, h⟩ => exact Nat.lt_one_iff.1 (show (rowGather.siIdx (ix2 r 0) q ⟨2, h⟩).val < 1 from Fin.isLt _)

/-- The gather at row `r` reads row `r` of the table, at the row's index clamped into it. -/
theorem gather_row (p : FVec Ideal S4096x512 .f32) (i : IVec S4096x1x1 32) (r : Fin 4096) (k : Fin 512)
    (hk : (i (ix3 r 0 0)).toInt.toNat = k.val) :
    (Host.gather rowGather p i : FVec Ideal S4096x1 .f32) (ix2 r 0) = p (ix2 r k) := by
  unfold Host.gather
  congr 1
  funext a
  apply Fin.ext
  match a with
  | ⟨0, h⟩ =>
    change (rowGather.operandIdx (ix2 r 0) i (0 : Fin 2)).val = r.val
    have hn : (0 : Fin 2) ∉ rowGather.startIndexMap := by decide
    have hb : (0 : Fin 2) ∈ rowGather.operandBatchingDims := by decide
    have hs : (0 : Fin 2) ∉ rowGather.sKept := by decide +kernel
    simp only [GatherDims.operandIdx, GatherDims.start, dif_neg hn, GatherDims.offCoord_eq_zero _ _ _ hs,
      GatherDims.batchCoord, dif_pos hb, Nat.add_zero, Nat.zero_add]
    exact rowGather_siCoord (ix2 r 0) _
  | ⟨1, h⟩ =>
    change (rowGather.operandIdx (ix2 r 0) i (1 : Fin 2)).val = k.val
    have hm : (1 : Fin 2) ∈ rowGather.startIndexMap := by decide
    have hb : (1 : Fin 2) ∉ rowGather.operandBatchingDims := by decide
    have hs : (1 : Fin 2) ∉ rowGather.sKept := by decide +kernel
    simp only [GatherDims.operandIdx, GatherDims.start, dif_pos hm, GatherDims.offCoord_eq_zero _ _ _ hs,
      GatherDims.batchCoord_eq_zero _ _ _ hb, Nat.add_zero, rowGather_siIdx, hk]
    have h1 : S4096x512.size 1 - rowGather.sliceSizes 1 = 511 := rfl
    rw [h1]
    have := k.isLt
    show min k.val 511 = k.val
    omega

end Cert.ReferenceIdeal.Hand

end
-- ==== Proof.RefRead.lean ====
/-
  What the reference's stages hold at an index.
-/
module

public import proofs.«01_k».proof.Proof.Gather
public import proofs.«01_k».proof.Proof.Spec
public import Idealize.ShloMosaic.Lib.Pointwise
public import Idealize.ShloMosaic.Lib.ReduceAll

@[expose] public section

set_option maxRecDepth 16384

noncomputable section

namespace Cert.ReferenceIdeal.Hand

open Idealize.ShloMosaic Idealize.ShloMosaic.TcCoe
open Cert.ReferenceIdeal Cert.ReferenceIdeal.Facts₀

/-- The first coordinate of flattened row `r`. -/
abbrev hi (r : Fin 4096) : Fin 4 := ⟨r.val / 1024, by omega⟩

/-- The second coordinate of flattened row `r`. -/
abbrev lo (r : Fin 4096) : Fin 1024 := ⟨r.val % 1024, by omega⟩

/-- The logits at an index: the row's products with the matrix, summed, plus the bias. -/
theorem logits_read (x : FVec Ideal S4x1024x512 .f32) (W : FVec Ideal S512x512 .f32) (b : FVec Ideal S512 .f32)
    (n : Fin 4) (t : Fin 1024) (k : Fin 512) :
    logits x W b (ix3 n t k) = ∑ d : Fin 512, x (ix3 n t d) * W (ix2 d k) + b (ix1 k) := by
  pointwise [logits]

/-- The projected features at an index: the row's products with the projection, summed. -/
theorem latent_read (x : FVec Ideal S4x1024x512 .f32) (P : FVec Ideal S512x32 .f32)
    (n : Fin 4) (t : Fin 1024) (v : Fin 32) :
    latent x P (ix3 n t v) = ∑ d : Fin 512, x (ix3 n t d) * P (ix2 d v) := by
  pointwise [latent]

/-- The normalized features at an index: the feature over its row's norm or the small constant. -/
theorem normed_read (g : FVec Ideal S4x1024x32 .f32) (n : Fin 4) (t : Fin 1024) (v : Fin 32) :
    normed g (ix3 n t v) = Ideal.div (g (ix3 n t v))
      (max (Ideal.sqrt (∑ x : Fin 32, g (ix3 n t x) * g (ix3 n t x))) (Rows.eps : EReal)) := by
  rw [← Rows.ofBits_eps]
  pointwise [normed]

/-- The differences at an index. -/
theorem diffs_read (f : FVec Ideal S4x1024x32 .f32) (C : FVec Ideal S512x32 .f32)
    (n : Fin 4) (t : Fin 1024) (k : Fin 512) (v : Fin 32) :
    diffs f C (ix4 n t k v) = f (ix3 n t v) - C (ix2 k v) := by
  pointwise [diffs]

/-- The distances at an index. -/
theorem dists_read (x : FVec Ideal S4x1024x512x32 .f32) (n : Fin 4) (t : Fin 1024) (k : Fin 512) :
    dists x (ix3 n t k) = Ideal.sqrt (∑ v : Fin 32, x (ix4 n t k v) * x (ix4 n t k v)) := by
  pointwise [dists]

/-- The distance of the normalized row to a code, over the projected features. -/
theorem dists_diffs_read (g : FVec Ideal S4x1024x32 .f32) (C : FVec Ideal S512x32 .f32)
    (n : Fin 4) (t : Fin 1024) (k : Fin 512) :
    dists (diffs (normed g) C) (ix3 n t k) = Rows.dist (fun v => g (ix3 n t v)) (fun v => C (ix2 k v)) := by
  rw [dists_read]
  simp only [diffs_read, normed_read]
  rfl

/-- The logarithm of the probability at an index of a row. -/
theorem logp_read (l : FVec Ideal S4096x512 .f32) (r : Fin 4096) (k : Fin 512) :
    logp l (ix2 r k) = Rows.logProb (fun i => l (ix2 r i)) k := by
  have hb : Ideal.ofBits .f32 0xFF800000#32 = ⊥ := by simp [Ideal.ofBits, Ideal.ieee]
  have hs : ∀ k : Fin 512, shifted l (ix2 r k) = l (ix2 r k) - max ⊥ (Rows.rowMax fun i => l (ix2 r i)) := by
    intro k
    rw [← hb]
    unfold Rows.rowMax
    rw [← hb]
    pointwise [shifted]
  have h : logp l (ix2 r k) = shifted l (ix2 r k) - Ideal.log (∑ j : Fin 512, Ideal.exp (shifted l (ix2 r j))) := by
    pointwise [logp]
  rw [h]
  simp only [hs]
  rfl

/-- A flattened array's row is the array's row at its two coordinates. -/
theorem flat_read (x : FVec Ideal S4x1024x512 .f32) (r : Fin 4096) (k : Fin 512) :
    (shapeCast S4096x512 x shapeCasts_S4x1024x512_S4096x512 : FVec Ideal S4096x512 .f32) (ix2 r k) = x (ix3 (hi r) (lo r) k) := by
  pointwise

/-- The column at a row is the index at the row's two coordinates. -/
theorem column_read (t : IVec S4x1024 32) (r : Fin 4096) : column t (ix2 r 0) = t (ix2 (hi r) (lo r)) := by
  pointwise [column]

/-- An index of the row is not wrapped. -/
theorem wrapped_read (i : IVec S4096x1 32) (r : Fin 4096) (k : Fin 512) (h : i (ix2 r 0) = BitVec.ofNat 32 k.val) :
    wrapped i (ix3 r 0 0) = BitVec.ofNat 32 k.val := by
  have e : wrapped i (ix3 r 0 0) = Scalar.select (IntOp.cmpi .slt (i (ix2 r 0)) 0#32)
      (IntOp.addi (i (ix2 r 0)) 512#32) (i (ix2 r 0)) := by
    pointwise [wrapped]
  rw [e, h]
  have hs : IntOp.cmpi .slt (BitVec.ofNat 32 k.val) 0#32 = 0#1 := by
    have := Rows.toInt_word (n := k.val) (by omega)
    have hk : ¬((k.val : ℤ) < 0) := by omega
    have h0 : (0#32 : BitVec 32).toInt = 0 := by decide
    simp only [IntOp.cmpi, BitVec.slt_eq_decide, this, h0, hk]
    decide
  rw [hs]
  rfl

/-- An index of the row is inside it. -/
theorem inside_read (w : IVec S4096x1x1 32) (r : Fin 4096) (k : Fin 512) (h : w (ix3 r 0 0) = BitVec.ofNat 32 k.val) :
    inside w (ix2 r 0) = 1#1 := by
  have e : inside w (ix2 r 0) = Finset.fold IntOp.andi 1#1 (fun j : Fin 1 =>
      IntOp.andi (IntOp.cmpi .sge (w (ix3 r 0 j)) 0#32) (IntOp.cmpi .sle (w (ix3 r 0 j)) 511#32)) Finset.univ := by
    pointwise [inside]
  have h1 : IntOp.cmpi .sge (BitVec.ofNat 32 k.val) 0#32 = 1#1 := by
    have := Rows.toInt_word (n := k.val) (by omega)
    simp only [IntOp.cmpi, BitVec.sle_eq_decide, this]
    simp
  have h2 : IntOp.cmpi .sle (BitVec.ofNat 32 k.val) 511#32 = 1#1 := by
    have := Rows.toInt_word (n := k.val) (by omega)
    have h511 : (511#32 : BitVec 32).toInt = 511 := by decide
    have hk : (k.val : ℤ) ≤ 511 := by omega
    simp only [IntOp.cmpi, BitVec.sle_eq_decide, this, h511, hk]
    decide
  rw [e, Finset.univ_unique, Finset.fold_singleton]
  show IntOp.andi (IntOp.andi (IntOp.cmpi .sge (w (ix3 r 0 0)) 0#32) (IntOp.cmpi .sle (w (ix3 r 0 0)) 511#32)) 1#1 = 1#1
  rw [h, h1, h2]
  rfl

/-- The mean of the negated elements. -/
theorem loss_read (t : FVec Ideal S4096x1 .f32) :
    loss t ix0 = Ideal.div (∑ r : Fin 4096, -t (ix2 r 0)) (Ideal.ofBits .f32 0x45800000#32) := by
  pointwise [loss]

end Cert.ReferenceIdeal.Hand

end
-- ==== Proof.RefTargets.lean ====
/-
  The index the reference chooses at a row: the fold of the row's pairs of distance and index.
-/
module

public import proofs.«01_k».proof.Proof.RefRead

@[expose] public section

set_option maxRecDepth 16384

noncomputable section

namespace Cert.ReferenceIdeal.Hand

open Idealize.ShloMosaic Idealize.ShloMosaic.TcCoe
open Cert.ReferenceIdeal Cert.ReferenceIdeal.Facts₀

/-- The reference's reducer is the first minimum of two pairs. -/
theorem reducer_eq : reducer_argmin_f32_i32 (F := Ideal) = Rows.pairMin := rfl

/-- The fold starts from the top and index zero. -/
theorem start_eq : ((constant S_ .f32 0x7F800000#32 : FVec Ideal S_ .f32) (Shape.Idx.first h_S_),
    (constantI S_ 32 0#32 : IVec S_ 32) (Shape.Idx.first h_S_)) = ((⊤ : EReal), 0#32) := by
  refine Prod.ext ?_ rfl
  show Ideal.ofBits .f32 0x7F800000#32 = ⊤
  simp [Ideal.ofBits, Ideal.ieee]

/-- The indices chosen, as the reference's reduction of pairs. -/
theorem targets_def (d : FVec Ideal S4x1024x512 .f32) : targets d = fun j =>
    (Host.argReduce (reducer_argmin_f32_i32 (F := Ideal)) d (iotaInDim S4x1024x512 32 2)
        (constant S_ .f32 0x7F800000#32 : FVec Ideal S_ .f32) (constantI S_ 32 0#32)
        reducesTo_S4x1024x512_S4x1024_d2 h_S_ j).2 := rfl

/-- That reduction is the plain reduction of pairs. -/
theorem argReduce_plain (d : FVec Ideal S4x1024x512 .f32) :
    Host.argReduce (reducer_argmin_f32_i32 (F := Ideal)) d (iotaInDim S4x1024x512 32 2)
        (constant S_ .f32 0x7F800000#32 : FVec Ideal S_ .f32) (constantI S_ 32 0#32)
        reducesTo_S4x1024x512_S4x1024_d2 h_S_
      = Host.reduce2 (reducer_argmin_f32_i32 (F := Ideal)) d (iotaInDim S4x1024x512 32 2)
        (constant S_ .f32 0x7F800000#32 : FVec Ideal S_ .f32) (constantI S_ 32 0#32)
        reducesTo_S4x1024x512_S4x1024_d2 h_S_ :=
  Ideal.argReduce_eq_reduce2 (φ := .f32) _ _ _ _ _ _ _

/-- The index chosen at a row, as a plain reduction of pairs. -/
theorem targets_reduce2 (d : FVec Ideal S4x1024x512 .f32) (j : S4x1024.Idx) : targets d j
    = (Host.reduce2 (reducer_argmin_f32_i32 (F := Ideal)) d (iotaInDim S4x1024x512 32 2)
        (constant S_ .f32 0x7F800000#32 : FVec Ideal S_ .f32) (constantI S_ 32 0#32)
        reducesTo_S4x1024x512_S4x1024_d2 h_S_ j).2 :=
  (congrFun (targets_def d) j).trans (congrArg (fun f : S4x1024.Idx → EReal × BitVec 32 => (f j).2) (argReduce_plain d))

/-- The reduction of pairs is the fold over the row's pairs. -/
theorem reduce2_fold (d : FVec Ideal S4x1024x512 .f32) (j : S4x1024.Idx) :
    Host.reduce2 (reducer_argmin_f32_i32 (F := Ideal)) d (iotaInDim S4x1024x512 32 2)
        (constant S_ .f32 0x7F800000#32 : FVec Ideal S_ .f32) (constantI S_ 32 0#32)
        reducesTo_S4x1024x512_S4x1024_d2 h_S_ j
      = (Host.argReduceFiber d (iotaInDim S4x1024x512 32 2) reducesTo_S4x1024x512_S4x1024_d2 j).foldl
          (reducer_argmin_f32_i32 (F := Ideal))
          ((constant S_ .f32 0x7F800000#32 : FVec Ideal S_ .f32) (Shape.Idx.first h_S_),
            (constantI S_ 32 0#32 : IVec S_ 32) (Shape.Idx.first h_S_)) :=
  Host.reduce2_eq_foldl_fiber _ _ _ _ _ _ _ _

/-- A fold of pairs by the reference's reducer from its start is the fold by the first minimum from the top. -/
theorem fold_eq (L : List (EReal × BitVec 32)) :
    L.foldl (reducer_argmin_f32_i32 (F := Ideal))
        ((constant S_ .f32 0x7F800000#32 : FVec Ideal S_ .f32) (Shape.Idx.first h_S_),
          (constantI S_ 32 0#32 : IVec S_ 32) (Shape.Idx.first h_S_))
      = L.foldl Rows.pairMin (⊤, 0#32) :=
  (congrArg (fun s => L.foldl (reducer_argmin_f32_i32 (F := Ideal)) s) start_eq).trans
    (congrArg (fun f => L.foldl f (⊤, 0#32)) reducer_eq)

/-- The index chosen at a row is the fold of the row's pairs of distance and index. -/
theorem targets_read (d : FVec Ideal S4x1024x512 .f32) (n : Fin 4) (t : Fin 1024) :
    ∃ L : List (EReal × BitVec 32), (∀ p, p ∈ L ↔ ∃ k : Fin 512, (d (ix3 n t k), BitVec.ofNat 32 k.val) = p) ∧
      targets d (ix2 n t) = (L.foldl Rows.pairMin (⊤, 0#32)).2 := by
  refine ⟨Host.argReduceFiber d (iotaInDim S4x1024x512 32 2) reducesTo_S4x1024x512_S4x1024_d2 (ix2 n t), ?_, ?_⟩
  · intro p
    have hio : ∀ k : Fin 512, iotaInDim S4x1024x512 32 2 (ix3 n t k) = BitVec.ofNat 32 k.val := fun k => rfl
    unfold Host.argReduceFiber
    simp only [List.mem_map, List.mem_filter, List.mem_finRange, true_and, decide_eq_true_eq]
    constructor
    · rintro ⟨q, hq, rfl⟩
      obtain ⟨k, hk⟩ : ∃ k : Fin 512, ix3 n t k = S4x1024x512.rowMajor.symm q := (Shape.ReducesTo.fiber_r3_a2 _ _ _).1 hq
      exact ⟨k, by rw [← hk, hio]⟩
    · rintro ⟨k, rfl⟩
      refine ⟨S4x1024x512.rowMajor (ix3 n t k), ?_, ?_⟩
      · rw [Equiv.symm_apply_apply]
        exact (Shape.ReducesTo.fiber_r3_a2 _ _ _).2 ⟨k, rfl⟩
      · rw [Equiv.symm_apply_apply, hio]
  · exact (targets_reduce2 d _).trans (congrArg Prod.snd ((reduce2_fold d _).trans (fold_eq _)))

end Cert.ReferenceIdeal.Hand

end
-- ==== Proof.RefTaken.lean ====
/-
  The element the reference takes from a row.
-/
module

public import proofs.«01_k».proof.Proof.RefRead

@[expose] public section

set_option maxRecDepth 16384

noncomputable section

namespace Cert.ReferenceIdeal.Hand

open Idealize.ShloMosaic Idealize.ShloMosaic.TcCoe
open Cert.ReferenceIdeal Cert.ReferenceIdeal.Facts₀

/-- The element taken from a row is the row's element at its index. -/
theorem taken_read (p : FVec Ideal S4096x512 .f32) (i : IVec S4096x1 32) (r : Fin 4096) (k : Fin 512)
    (h : i (ix2 r 0) = BitVec.ofNat 32 k.val) : taken p i (ix2 r 0) = p (ix2 r k) := by
  have hw := wrapped_read i r k h
  unfold taken
  rw [ValueIdx.select_apply, inside_read (wrapped i) r k hw,
    gather_row p (wrapped i) r k (by rw [hw, Rows.toInt_word (by omega), Int.toNat_natCast])]
  exact if_pos rfl

end Cert.ReferenceIdeal.Hand

end
-- ==== Proof.RefValue.lean ====
/-
  What the reference's result holds over real arguments whose codebook rows have one norm: the mean of the rows' losses.
-/
module

public import proofs.«01_k».proof.Proof.RefTargets
public import proofs.«01_k».proof.Proof.RefTaken

@[expose] public section

set_option maxRecDepth 16384

noncomputable section

namespace Cert.ReferenceIdeal.Hand

open Idealize.ShloMosaic Idealize.ShloMosaic.TcCoe
open Cert.ReferenceIdeal Cert.ReferenceIdeal.Facts₀

/-- Over real arguments whose codebook rows have one norm, the reference's result is the mean of the rows' losses. -/
theorem refOut_eq (a0 a1 : S4x1024x512.Idx → ℝ) (a2 a3 : S512x32.Idx → ℝ) (a4 : S512x512.Idx → ℝ) (a5 : S512.Idx → ℝ)
    (N : ℝ) (hN : ∀ k : Fin 512, ∑ v : Fin 32, a3 (ix2 k v) * a3 (ix2 k v) = N) :
    refOut (fun i => (a0 i : EReal)) (fun i => (a1 i : EReal)) (fun i => (a2 i : EReal)) (fun i => (a3 i : EReal))
        (fun i => (a4 i : EReal)) (fun i => (a5 i : EReal)) ix0
      = Ideal.div (∑ r : Fin 4096, ((Rows.rowLoss
          (Rows.scoreAt (fun d => a0 (ix3 (hi r) (lo r) d)) (fun d v => a2 (ix2 d v)) (fun k v => a3 (ix2 k v)))
          (Rows.logitAt (fun d => a1 (ix3 (hi r) (lo r) d)) (fun d k => a4 (ix2 d k)) (fun k => a5 (ix1 k))) : ℝ) : EReal))
        (Ideal.ofBits .f32 0x45800000#32) := by
  unfold refOut
  rw [loss_read]
  refine congrArg (fun s : EReal => Ideal.div s (Ideal.ofBits .f32 0x45800000#32)) (Finset.sum_congr rfl fun r _ => ?_)
  rw [← Rows.neg_logProb_eq]
  refine congrArg (fun s : EReal => -s) ?_
  obtain ⟨L, hL, ht⟩ := targets_read (dists (diffs (normed (latent (fun i => (a0 i : EReal)) (fun i => (a2 i : EReal))))
    (fun i => (a3 i : EReal)))) (hi r) (lo r)
  rw [taken_read _ _ r (Rows.firstIdx (Rows.scoreAt (fun d => a0 (ix3 (hi r) (lo r) d)) (fun d v => a2 (ix2 d v))
    (fun k v => a3 (ix2 k v)))), logp_read]
  · refine congrArg (fun f : Fin 512 → EReal => Rows.logProb f _) (funext fun i => ?_)
    rw [flat_read, logits_read, ← Rows.logitAt_coe]
  · rw [column_read, ht]
    refine Rows.nearest_eq (Rows.latentAt (fun d => a0 (ix3 (hi r) (lo r) d)) (fun d v => a2 (ix2 d v)))
      (fun k v => a3 (ix2 k v)) N hN (Rows.firstIdx_spec _) L fun p => ?_
    rw [hL p]
    have e : ∀ k : Fin 512, dists (diffs (normed (latent (fun i => (a0 i : EReal)) (fun i => (a2 i : EReal))))
        (fun i => (a3 i : EReal))) (ix3 (hi r) (lo r) k)
        = Rows.dist (fun v => (Rows.latentAt (fun d => a0 (ix3 (hi r) (lo r) d)) (fun d v => a2 (ix2 d v)) v : EReal))
          (fun v => (a3 (ix2 k v) : EReal)) := by
      intro k
      rw [dists_diffs_read]
      refine congrArg (fun f : Fin 32 → EReal => Rows.dist f _) (funext fun v => ?_)
      rw [latent_read, ← Rows.latentAt_coe]
    simp only [e]

end Cert.ReferenceIdeal.Hand

end
-- ==== Proof.Equation.lean ====
/-
  The reference's result is the kernel's.
-/
module

public import proofs.«01_k».proof.Proof.KernelValue
public import proofs.«01_k».proof.Proof.PreFacts
public import proofs.«01_k».proof.Proof.RefValue

@[expose] public section

set_option maxRecDepth 16384

noncomputable section

namespace Cert.Equation

open Idealize.ShloMosaic Idealize.ShloMosaic.TcCoe Idealize.SL.Sem
open Cert.KernelIdeal Cert.KernelIdeal.Gen Cert.KernelIdeal.Hand

/-- On arguments that pass the precondition, the reference's result is the kernel's. -/
theorem results_eq (m : (ℓ : Loc nD τ sig) → Buf (Elt Ideal) ℓ) (c : Dev nD)
    (e : Cert.Pre_inputs_ok.fn (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) = fun _ => 1#1) :
    Cert.ReferenceIdeal.Hand.refOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      = (show FVec Ideal S_ .f32 from Pipeline.afterTail₀ cfgs (dats m) 0 (V0 m) [hostOps1] c main_v5) := by
  obtain ⟨⟨a0, h0⟩, ⟨a1, h1⟩, ⟨a2, h2⟩, ⟨a3, N, h3, hN⟩, ⟨a4, h4⟩, ⟨a5, h5⟩⟩ :=
    Cert.Pre_inputs_ok.Hand.real_inputs _ _ _ _ _ _ e
  rw [result_coe m c a0 a1 a2 a3 a4 a5 h0 h1 h2 h3 h4 h5, h0, h1, h2, h3, h4, h5]
  funext j
  rw [show j = ix0 from funext fun k => k.elim0]
  exact Cert.ReferenceIdeal.Hand.refOut_eq a0 a1 a2 a3 a4 a5 N hN

end Cert.Equation

end
-- ==== Proof.lean ====
/-
  The proof of the certificate's claim: the frames of the three programs, the idealization, and, on arguments that
  pass the precondition, the equality of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.Pre_inputs_ok
public import proofs.«01_k».proof.Proof.RefRun
public import proofs.«01_k».proof.Proof.RefFrame
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- On arguments that pass the precondition, kernel and reference both run and end with equal results. -/
theorem values : Cert.algebraic_KernelIdeal_ReferenceIdeal_pre_inputs_ok := by
  pair_intro
  · run_from Cert.KernelIdeal.Gen.run_main m g & Cert.KernelIdeal.Gen.unchanged m g
  · run_from Cert.ReferenceIdeal.Hand.run_ref m' g'
    exact Cert.Equation.results_eq m c (hpre c)

/-- Everything claimed: the three programs' frames, the idealization and the equality of the results. -/
theorem claim : Cert.Claim := ⟨Cert.Kernel.Gen.facts, Cert.KernelIdeal.Gen.facts, Cert.ReferenceIdeal.Gen.facts, Cert.Pre_inputs_ok.Gen.facts,
  fun m ρ _ => Cert.Kernel.Gen.frame m ρ,
  fun m ρ _ => Cert.KernelIdeal.Gen.frame m ρ,
  fun m ρ _ => Cert.KernelIdeal.Gen.frame m ρ,
  Cert.ReferenceIdeal.Hand.frame_ref,
  fun m g _ => Cert.ReferenceIdeal.Hand.frame_ref m g trivial,
  trivial,
  values⟩

end Cert.Proof

end
